-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S4x384x384 : Shape := ⟨3, ![4, 384, 384]⟩
abbrev S4x384x64x128 : Shape := ⟨4, ![4, 384, 64, 128]⟩
abbrev S4x384x64 : Shape := ⟨3, ![4, 384, 64]⟩
abbrev S4x384x128 : Shape := ⟨3, ![4, 384, 128]⟩
abbrev S4x384 : Shape := ⟨2, ![4, 384]⟩
abbrev S_ : Shape := ⟨0, ![]⟩

class Facts : Prop where
  bcast_S_S4x384x384 : S_.BroadcastsInDim S4x384x384 (![] : Fin 0 → Fin S4x384x384.rank)
  bcast_S_S4x384x64 : S_.BroadcastsInDim S4x384x64 (![] : Fin 0 → Fin S4x384x64.rank)
  bcast_S_S4x384 : S_.BroadcastsInDim S4x384 (![] : Fin 0 → Fin S4x384.rank)

variable [Facts]

def fn {F : FTy → Type} [FloatOps F] (main_arg0 : FVec F S4x384x384 .f32) (main_arg1 : FVec F S4x384x64x128 .fp8e4m3) (main_arg2 : FVec F S4x384x64 .f32) (main_arg3 : FVec F S4x384x128 .fp8e4m3) (main_arg4 : FVec F S4x384 .f32) (main_arg5 : FVec F S4x384x64 .bf16) : IVec S4x384x384 1 × IVec S4x384x64 1 × IVec S4x384 1 :=
  let main_v0 : IVec S4x384x384 32 := iotaInDim S4x384x384 32 1
  let main_v1 : IVec S4x384x384 32 := iotaInDim S4x384x384 32 2
  let main_v2 : IVec S4x384x384 1 := cmpi .sle main_v1 main_v0
  let main_cst : FVec F S_ .f32 := constant S_ .f32 0x00000000#32
  let main_v3 : FVec F S4x384x384 .f32 := broadcastInDim S4x384x384 ![] bcast_S_S4x384x384 main_cst
  let main_v4 : IVec S4x384x384 1 := cmpf .oeq main_arg0 main_v3
  let main_v5 : IVec S4x384x384 1 := ori main_v2 main_v4
  let main_cst_0 : FVec F S_ .f32 := constant S_ .f32 0x00000000#32
  let main_v6 : FVec F S4x384x64 .f32 := broadcastInDim S4x384x64 ![] bcast_S_S4x384x64 main_cst_0
  let main_v7 : IVec S4x384x64 1 := cmpf .ogt main_arg2 main_v6
  let main_cst_1 : FVec F S_ .f32 := constant S_ .f32 0x7F800000#32
  let main_v8 : FVec F S4x384x64 .f32 := broadcastInDim S4x384x64 ![] bcast_S_S4x384x64 main_cst_1
  let main_v9 : IVec S4x384x64 1 := cmpf .olt main_arg2 main_v8
  let main_v10 : IVec S4x384x64 1 := andi main_v7 main_v9
  let main_cst_2 : FVec F S_ .f32 := constant S_ .f32 0x00000000#32
  let main_v11 : FVec F S4x384 .f32 := broadcastInDim S4x384 ![] bcast_S_S4x384 main_cst_2
  let main_v12 : IVec S4x384 1 := cmpf .ogt main_arg4 main_v11
  let main_cst_3 : FVec F S_ .f32 := constant S_ .f32 0x7F800000#32
  let main_v13 : FVec F S4x384 .f32 := broadcastInDim S4x384 ![] bcast_S_S4x384 main_cst_3
  let main_v14 : IVec S4x384 1 := cmpf .olt main_arg4 main_v13
  let main_v15 : IVec S4x384 1 := andi main_v12 main_v14
  (main_v5, main_v10, main_v15)
-- ==== Kernel.lean ====
abbrev S4x384x384 : Shape := ⟨3, ![4, 384, 384]⟩
abbrev S4x384x64x128 : Shape := ⟨4, ![4, 384, 64, 128]⟩
abbrev S4x384x64 : Shape := ⟨3, ![4, 384, 64]⟩
abbrev S4x384x128 : Shape := ⟨3, ![4, 384, 128]⟩
abbrev S4x384 : Shape := ⟨2, ![4, 384]⟩
abbrev S4x3x128x64x128 : Shape := ⟨5, ![4, 3, 128, 64, 128]⟩
abbrev S4x3x128x64 : Shape := ⟨4, ![4, 3, 128, 64]⟩
abbrev S4x1x384 : Shape := ⟨3, ![4, 1, 384]⟩
abbrev S4x3x128x384 : Shape := ⟨4, ![4, 3, 128, 384]⟩
abbrev S1x3x16x64x128 : Shape := ⟨5, ![1, 3, 16, 64, 128]⟩
abbrev S1x3x16x64 : Shape := ⟨4, ![1, 3, 16, 64]⟩
abbrev S1x384x128 : Shape := ⟨3, ![1, 384, 128]⟩
abbrev S1x1x384 : Shape := ⟨3, ![1, 1, 384]⟩
abbrev S1x3x16x384 : Shape := ⟨4, ![1, 3, 16, 384]⟩
abbrev S1024x384 : Shape := ⟨2, ![1024, 384]⟩
abbrev S384x128 : Shape := ⟨2, ![384, 128]⟩
abbrev S128x384 : Shape := ⟨2, ![128, 384]⟩
abbrev S1x384 : Shape := ⟨2, ![1, 384]⟩
abbrev S1x1x16x64x128 : Shape := ⟨5, ![1, 1, 16, 64, 128]⟩
abbrev S16x64x128 : Shape := ⟨3, ![16, 64, 128]⟩
abbrev S1024x128 : Shape := ⟨2, ![1024, 128]⟩
abbrev S128x128 : Shape := ⟨2, ![128, 128]⟩
abbrev S1x1x16x64 : Shape := ⟨4, ![1, 1, 16, 64]⟩
abbrev S16x64 : Shape := ⟨2, ![16, 64]⟩
abbrev S64x16 : Shape := ⟨2, ![64, 16]⟩
abbrev S64x128 : Shape := ⟨2, ![64, 128]⟩
abbrev S64x1 : Shape := ⟨2, ![64, 1]⟩
abbrev S128 : Shape := ⟨1, ![128]⟩
abbrev S1x128 : Shape := ⟨2, ![1, 128]⟩
abbrev S16x128 : Shape := ⟨2, ![16, 128]⟩
abbrev S16 : Shape := ⟨1, ![16]⟩
abbrev S16x1 : Shape := ⟨2, ![16, 1]⟩
abbrev S1x1x16x128 : Shape := ⟨4, ![1, 1, 16, 128]⟩
abbrev S64 : Shape := ⟨1, ![64]⟩
abbrev S256x128 : Shape := ⟨2, ![256, 128]⟩
abbrev S1024x256 : Shape := ⟨2, ![1024, 256]⟩
abbrev S64x256 : Shape := ⟨2, ![64, 256]⟩
abbrev S256 : Shape := ⟨1, ![256]⟩
abbrev S1x256 : Shape := ⟨2, ![1, 256]⟩
abbrev S16x256 : Shape := ⟨2, ![16, 256]⟩
abbrev S1x1x16x256 : Shape := ⟨4, ![1, 1, 16, 256]⟩
abbrev S128x256 : Shape := ⟨2, ![128, 256]⟩
abbrev S64x384 : Shape := ⟨2, ![64, 384]⟩
abbrev S384 : Shape := ⟨1, ![384]⟩
abbrev S16x384 : Shape := ⟨2, ![16, 384]⟩
abbrev S1x1x16x384 : Shape := ⟨4, ![1, 1, 16, 384]⟩
abbrev S1x1x128 : Shape := ⟨3, ![1, 1, 128]⟩

abbrev nBuf : Space → Nat
  | .hbm => 15
  | .vmem => 25
  | .smem => 0
  | _ => 0

abbrev bufTy : (tb : Table) → Fin (tcTables nBuf tb) → BufTy
  | .hbm, ⟨0, _⟩ => ⟨S4x384x384, .f32⟩
  | .hbm, ⟨1, _⟩ => ⟨S4x384x64x128, .fp8e4m3⟩
  | .hbm, ⟨2, _⟩ => ⟨S4x384x64, .f32⟩
  | .hbm, ⟨3, _⟩ => ⟨S4x384x128, .fp8e4m3⟩
  | .hbm, ⟨4, _⟩ => ⟨S4x384, .f32⟩
  | .hbm, ⟨5, _⟩ => ⟨S4x384x64, .bf16⟩
  | .hbm, ⟨6, _⟩ => ⟨S4x3x128x64x128, .fp8e4m3⟩
  | .hbm, ⟨7, _⟩ => ⟨S4x3x128x64, .f32⟩
  | .hbm, ⟨8, _⟩ => ⟨S4x3x128x64, .bf16⟩
  | .hbm, ⟨9, _⟩ => ⟨S4x1x384, .f32⟩
  | .hbm, ⟨10, _⟩ => ⟨S4x3x128x384, .f32⟩
  | .hbm, ⟨11, _⟩ => ⟨S4x1x384, .f32⟩
  | .hbm, ⟨12, _⟩ => ⟨S4x3x128x64x128, .f32⟩
  | .hbm, ⟨13, _⟩ => ⟨S4x384x128, .f32⟩
  | .hbm, ⟨14, _⟩ => ⟨S4x3x128x64, .f32⟩
  | .local _ .vmem, ⟨0, _⟩ => ⟨S1x3x16x64x128, .fp8e4m3⟩
  | .local _ .vmem, ⟨1, _⟩ => ⟨S1x3x16x64x128, .fp8e4m3⟩
  | .local _ .vmem, ⟨2, _⟩ => ⟨S1x3x16x64, .f32⟩
  | .local _ .vmem, ⟨3, _⟩ => ⟨S1x3x16x64, .f32⟩
  | .local _ .vmem, ⟨4, _⟩ => ⟨S1x3x16x64, .bf16⟩
  | .local _ .vmem, ⟨5, _⟩ => ⟨S1x3x16x64, .bf16⟩
  | .local _ .vmem, ⟨6, _⟩ => ⟨S1x384x128, .fp8e4m3⟩
  | .local _ .vmem, ⟨7, _⟩ => ⟨S1x384x128, .fp8e4m3⟩
  | .local _ .vmem, ⟨8, _⟩ => ⟨S1x1x384, .f32⟩
  | .local _ .vmem, ⟨9, _⟩ => ⟨S1x1x384, .f32⟩
  | .local _ .vmem, ⟨10, _⟩ => ⟨S1x3x16x384, .f32⟩
  | .local _ .vmem, ⟨11, _⟩ => ⟨S1x3x16x384, .f32⟩
  | .local _ .vmem, ⟨12, _⟩ => ⟨S1x1x384, .f32⟩
  | .local _ .vmem, ⟨13, _⟩ => ⟨S1x1x384, .f32⟩
  | .local _ .vmem, ⟨14, _⟩ => ⟨S1x3x16x64x128, .f32⟩
  | .local _ .vmem, ⟨15, _⟩ => ⟨S1x3x16x64x128, .f32⟩
  | .local _ .vmem, ⟨16, _⟩ => ⟨S1x384x128, .f32⟩
  | .local _ .vmem, ⟨17, _⟩ => ⟨S1x384x128, .f32⟩
  | .local _ .vmem, ⟨18, _⟩ => ⟨S1x3x16x64, .f32⟩
  | .local _ .vmem, ⟨19, _⟩ => ⟨S1x3x16x64, .f32⟩
  | .local _ .vmem, ⟨20, _⟩ => ⟨S1024x384, .f32⟩
  | .local _ .vmem, ⟨21, _⟩ => ⟨S1024x384, .bf16⟩
  | .local _ .vmem, ⟨22, _⟩ => ⟨S1024x384, .bf16⟩
  | .local _ .vmem, ⟨23, _⟩ => ⟨S384x128, .f32⟩
  | .local _ .vmem, ⟨24, _⟩ => ⟨S128x384, .f32⟩
  | _, _ => ⟨S4x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c0_i32_68 : BitVec 32 := 0#32
  let arg1 : BitVec 32 := BitVec.ofNat 32 (i 1).val
  let c16_i32_67 : BitVec 32 := 16#32
  let v161 : BitVec 32 := Scalar.muli arg1 c16_i32_67
  let v162 : BitVec 32 := Scalar.addi c0_i32_68 v161
  v162
def k0_off1 (i : grid0.Coords) (c0_i32_68 : BitVec 32) : Fin 2 → Nat :=
  let arg1 : BitVec 32 := BitVec.ofNat 32 (i 1).val
  let c16_i32_67 : BitVec 32 := 16#32
  let v161 : BitVec 32 := Scalar.muli arg1 c16_i32_67
  let v162 : BitVec 32 := Scalar.addi c0_i32_68 v161
  let v163 : BitVec 32 := v162
  let v164 : Index := Scalar.indexCast v163
  let c0_69 : Index := 0#32
  ![v164.toNat, 0]
def k0_mult2 (i : grid0.Coords) : BitVec 32 :=
  let c128_i32_327 : BitVec 32 := 128#32
  let arg1 : BitVec 32 := BitVec.ofNat 32 (i 1).val
  let c16_i32_326 : BitVec 32 := 16#32
  let v813 : BitVec 32 := Scalar.muli arg1 c16_i32_326
  let v814 : BitVec 32 := Scalar.addi c128_i32_327 v813
  v814
def k0_mult3 (i : grid0.Coords) : BitVec 32 :=
  let c256_i32_586 : BitVec 32 := 256#32
  let arg1 : BitVec 32 := BitVec.ofNat 32 (i 1).val
  let c16_i32_585 : BitVec 32 := 16#32
  let v1463 : BitVec 32 := Scalar.muli arg1 c16_i32_585
  let v1464 : BitVec 32 := Scalar.addi c256_i32_586 v1463
  v1464
def k0_cond2 (i : grid0.Coords) : BitVec 1 :=
  let arg1 : BitVec 32 := BitVec.ofNat 32 (i 1).val
  let c7_i32 : BitVec 32 := 7#32
  let v1960 : BitVec 1 := Scalar.cmpi .eq arg1 c7_i32
  let v1961 : BitVec 32 := Scalar.extui v1960
  let c0_i32_768 : BitVec 32 := 0#32
  let v1962 : BitVec 1 := Scalar.cmpi .ne v1961 c0_i32_768
  v1962

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x16x64x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x16x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x16x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x3x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x384x384 : Shape := ⟨3, ![4, 384, 384]⟩
abbrev S4x384x64x128 : Shape := ⟨4, ![4, 384, 64, 128]⟩
abbrev S4x384x64 : Shape := ⟨3, ![4, 384, 64]⟩
abbrev S4x384x128 : Shape := ⟨3, ![4, 384, 128]⟩
abbrev S4x384 : Shape := ⟨2, ![4, 384]⟩
abbrev S4x1x384 : Shape := ⟨3, ![4, 1, 384]⟩
abbrev S4x3x128x64x128 : Shape := ⟨5, ![4, 3, 128, 64, 128]⟩
abbrev S4x3x128x64 : Shape := ⟨4, ![4, 3, 128, 64]⟩
abbrev S4x1x1x384 : Shape := ⟨4, ![4, 1, 1, 384]⟩
abbrev S4x24576x128 : Shape := ⟨3, ![4, 24576, 128]⟩
abbrev S4x24576x384 : Shape := ⟨3, ![4, 24576, 384]⟩
abbrev S4x384x64x384 : Shape := ⟨4, ![4, 384, 64, 384]⟩
abbrev S4x384x64x1 : Shape := ⟨4, ![4, 384, 64, 1]⟩
abbrev S4x384x1 : Shape := ⟨3, ![4, 384, 1]⟩
abbrev S4x384x1x384 : Shape := ⟨4, ![4, 384, 1, 384]⟩

abbrev nBuf : Space → Nat
  | .hbm => 10
  | .vmem => 10
  | .smem => 0
  | _ => 0

abbrev bufTy : (tb : Table) → Fin (tcTables nBuf tb) → BufTy
  | .hbm, ⟨0, _⟩ => ⟨S4x384x384, .f32⟩
  | .hbm, ⟨1, _⟩ => ⟨S4x384x64x128, .fp8e4m3⟩
  | .hbm, ⟨2, _⟩ => ⟨S4x384x64, .f32⟩
  | .hbm, ⟨3, _⟩ => ⟨S4x384x128, .fp8e4m3⟩
  | .hbm, ⟨4, _⟩ => ⟨S4x384, .f32⟩
  | .hbm, ⟨5, _⟩ => ⟨S4x384x64, .bf16⟩
  | .hbm, ⟨6, _⟩ => ⟨S4x1x384, .f32⟩
  | .hbm, ⟨7, _⟩ => ⟨S4x3x128x64x128, .f32⟩
  | .hbm, ⟨8, _⟩ => ⟨S4x384x128, .f32⟩
  | .hbm, ⟨9, _⟩ => ⟨S4x3x128x64, .f32⟩
  | .local _ .vmem, ⟨0, _⟩ => ⟨S4x384x384, .f32⟩
  | .local _ .vmem, ⟨1, _⟩ => ⟨S4x384x64x128, .fp8e4m3⟩
  | .local _ .vmem, ⟨2, _⟩ => ⟨S4x384x64, .f32⟩
  | .local _ .vmem, ⟨3, _⟩ => ⟨S4x384x128, .fp8e4m3⟩
  | .local _ .vmem, ⟨4, _⟩ => ⟨S4x384, .f32⟩
  | .local _ .vmem, ⟨5, _⟩ => ⟨S4x384x64, .bf16⟩
  | .local _ .vmem, ⟨6, _⟩ => ⟨S4x1x384, .f32⟩
  | .local _ .vmem, ⟨7, _⟩ => ⟨S4x3x128x64x128, .f32⟩
  | .local _ .vmem, ⟨8, _⟩ => ⟨S4x384x128, .f32⟩
  | .local _ .vmem, ⟨9, _⟩ => ⟨S4x3x128x64, .f32⟩
  | _, _ => ⟨S4x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x3x128x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x3x128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KRun.Points.lean ====
/- WHERE THE KERNEL BRANCHES: which grid points take which of the body's two conditionals, which windows it leaves
   alone there, and the names of its staging buffers and scratch. -/
module

public import proofs.«01_k».proof.Proof.Gen.Kernel.Frame
public import proofs.«01_k».proof.Proof.Gen.Kernel.Skeleton

@[expose] public section

-- rectangles of 1024 by 384 are looked through coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- Window 9 is never idle (an output stored at every point, under no condition). -/
theorem liveAt0_9 : ∀ t : Fin cfg0.N, cfg0.idle 9 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1x1x384 .f32 := (Memref.whole cc0_stg6_0 : Memref sig .tc .vmem S1x1x384 .f32).view
/-- One staging buffer of output window 7, through which its contents are stated (`View.read_writes_of_cover`: the
    choice does not matter). -/
abbrev VO0_7 : View sig .tc .vmem S1x3x16x64x128 .f32 := (Memref.whole cc0_stg7_0 : Memref sig .tc .vmem S1x3x16x64x128 .f32).view
/-- One staging buffer of output window 8, through which its contents are stated (`View.read_writes_of_cover`: the
    choice does not matter). -/
abbrev VO0_8 : View sig .tc .vmem S1x384x128 .f32 := (Memref.whole cc0_stg8_0 : Memref sig .tc .vmem S1x384x128 .f32).view
/-- One staging buffer of output window 9, through which its contents are stated (`View.read_writes_of_cover`: the
    choice does not matter). -/
abbrev VO0_9 : View sig .tc .vmem S1x3x16x64 .f32 := (Memref.whole cc0_stg9_0 : Memref sig .tc .vmem S1x3x16x64 .f32).view
/-- Each window's current staging memref at point `t`, spelled as the pipeline passes it (`bodyAt0`), and its wholeness. -/
abbrev ms0_0 (t : Fin cfg0.N) : Memref sig .tc .vmem S1x3x16x64x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x16x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x16x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3x16x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x16x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x384 .f32 := Memref.whole cc0_scratch0
abbrev scM0_1 : Memref sig .tc .vmem S1024x384 .bf16 := Memref.whole cc0_scratch1
abbrev scM0_2 : Memref sig .tc .vmem S1024x384 .bf16 := Memref.whole cc0_scratch2
abbrev scM0_3 : Memref sig .tc .vmem S384x128 .f32 := Memref.whole cc0_scratch3
abbrev scM0_4 : Memref sig .tc .vmem S128x384 .f32 := Memref.whole cc0_scratch4
/-- The scratch `arg15` the kernel carries between points, as a view: what it holds is stated through it. -/
abbrev VS0_3 : View sig .tc .vmem S384x128 .f32 := scM0_3.view
/-- The scratch `arg16` the kernel carries between points, as a view: what it holds is stated through it. -/
abbrev VS0_4 : View sig .tc .vmem S128x384 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KRun.A.lean ====
/- THE KERNEL BODY RUN ONCE at the first query tile of a batch element. -/
module

public import proofs.«01_k».proof.Proof.KRun.Points

@[expose] public section

-- rectangles of 1024 by 384 are looked through coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2740000 in
/-- One run of the kernel body at the first query tile of a batch element: from whole staging buffers holding the input blocks `x0 … x5`, the stores it makes into
    each output block and into each scratch, last first (the pieces are found by running the body). -/
noncomputable def kernelRun0_A (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole) (hc0 : cond0_0 i) (hc1 : ¬cond0_1 i)
    (x0 : Vec F S1x3x16x64x128 .fp8e4m3) (x1 : Vec F S1x3x16x64 .f32) (x2 : Vec F S1x3x16x64 .bf16) (x3 : Vec F S1x384x128 .fp8e4m3) (x4 : Vec F S1x1x384 .f32) (x5 : Vec F S1x3x16x384 .f32) :
    Σ' (L6 : List (View.Piece (Elt F) S1x1x384 .f32)), Σ' (L7 : List (View.Piece (Elt F) S1x3x16x64x128 .f32)), Σ' (L8 : List (View.Piece (Elt F) S1x384x128 .f32)), Σ' (L9 : List (View.Piece (Elt F) S1x3x16x64 .f32)), Σ' (LS3 : List (View.Piece (Elt F) S384x128 .f32)), Σ' (LS4 : List (View.Piece (Elt F) S128x384 .f32)), Σ' (LT0 : List (View.Piece (Elt F) S1024x384 .f32)), Σ' (LT1 : List (View.Piece (Elt F) S1024x384 .bf16)), { LT2 : List (View.Piece (Elt F) S1024x384 .bf16) //
      ∀ (xi6 : Vec F S1x1x384 .f32) (xi8 : Vec F S1x384x128 .f32) (xs3 : Vec F S384x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (arg15.view.loc (c : Thread nD τ) ↦[arg15.view.set]{fullShare} arg15.view.writes (Elt F) (harg15.unread xs3) LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_indexer_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, [], ?_, ?_, ?_, ?_, ?_, ?_, fun xi6 xi8 xs3 E K => ?run⟩
  case run =>
    simp only [cc0_indexer_backward_eq_skeleton]; unfold cc0_indexer_backward_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%ds0, %fs0, -, HS0⟩, ⟨%ds1, %fs1, -, HS1⟩, ⟨%ds2, %fs2, -, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg15.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    isplitl [HS3]; · iexact HS3
    iexists _; iexact HS4

end Cert.Kernel.Gen

end
-- ==== Proof.KRun.B.lean ====
/- THE KERNEL BODY RUN ONCE at a middle query tile. -/
module

public import proofs.«01_k».proof.Proof.KRun.A

@[expose] public section

-- rectangles of 1024 by 384 are looked through coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2716000 in
/-- One run of the kernel body at a middle query tile: from whole staging buffers holding the input blocks `x0 … x5`, the stores it makes into
    each output block and into each scratch, last first (the pieces are found by running the body). -/
noncomputable def kernelRun0_B (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole) (hc0 : ¬cond0_0 i) (hc1 : ¬cond0_1 i)
    (x0 : Vec F S1x3x16x64x128 .fp8e4m3) (x1 : Vec F S1x3x16x64 .f32) (x2 : Vec F S1x3x16x64 .bf16) (x3 : Vec F S1x384x128 .fp8e4m3) (x4 : Vec F S1x1x384 .f32) (x5 : Vec F S1x3x16x384 .f32) (xs4 : Vec F S128x384 .f32) :
    Σ' (L6 : List (View.Piece (Elt F) S1x1x384 .f32)), Σ' (L7 : List (View.Piece (Elt F) S1x3x16x64x128 .f32)), Σ' (L8 : List (View.Piece (Elt F) S1x384x128 .f32)), Σ' (L9 : List (View.Piece (Elt F) S1x3x16x64 .f32)), Σ' (LS3 : List (View.Piece (Elt F) S384x128 .f32)), Σ' (LS4 : List (View.Piece (Elt F) S128x384 .f32)), Σ' (LT0 : List (View.Piece (Elt F) S1024x384 .f32)), Σ' (LT1 : List (View.Piece (Elt F) S1024x384 .bf16)), { LT2 : List (View.Piece (Elt F) S1024x384 .bf16) //
      ∀ (xi6 : Vec F S1x1x384 .f32) (xi8 : Vec F S1x384x128 .f32) (xs3 : Vec F S384x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (arg15.view.loc (c : Thread nD τ) ↦[arg15.view.set]{fullShare} arg15.view.writes (Elt F) (harg15.unread xs3) LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_indexer_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, [], ?_, ?_, ?_, ?_, ?_, ?_, fun xi6 xi8 xs3 E K => ?run⟩
  case run =>
    simp only [cc0_indexer_backward_eq_skeleton]; unfold cc0_indexer_backward_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    isplitl [HS3]; · iexact HS3
    iexists _; iexact HS4

end Cert.Kernel.Gen

end
-- ==== Proof.KRun.C.lean ====
/- THE KERNEL BODY RUN ONCE at the last query tile of a batch element. -/
module

public import proofs.«01_k».proof.Proof.KRun.B

@[expose] public section

-- rectangles of 1024 by 384 are looked through coordinate by coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2780000 in
/-- One run of the kernel body at the last query tile of a batch element: from whole staging buffers holding the input blocks `x0 … x5`, the stores it makes into
    each output block and into each scratch, last first (the pieces are found by running the body). -/
noncomputable def kernelRun0_C (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole) (hc0 : ¬cond0_0 i) (hc1 : cond0_1 i)
    (x0 : Vec F S1x3x16x64x128 .fp8e4m3) (x1 : Vec F S1x3x16x64 .f32) (x2 : Vec F S1x3x16x64 .bf16) (x3 : Vec F S1x384x128 .fp8e4m3) (x4 : Vec F S1x1x384 .f32) (x5 : Vec F S1x3x16x384 .f32) (xs3 : Vec F S384x128 .f32) (xs4 : Vec F S128x384 .f32) :
    Σ' (L6 : List (View.Piece (Elt F) S1x1x384 .f32)), Σ' (L7 : List (View.Piece (Elt F) S1x3x16x64x128 .f32)), Σ' (L8 : List (View.Piece (Elt F) S1x384x128 .f32)), Σ' (L9 : List (View.Piece (Elt F) S1x3x16x64 .f32)), Σ' (LS3 : List (View.Piece (Elt F) S384x128 .f32)), Σ' (LS4 : List (View.Piece (Elt F) S128x384 .f32)), Σ' (LT0 : List (View.Piece (Elt F) S1024x384 .f32)), Σ' (LT1 : List (View.Piece (Elt F) S1024x384 .bf16)), { LT2 : List (View.Piece (Elt F) S1024x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (arg15.view.loc (c : Thread nD τ) ↦[arg15.view.set]{fullShare} arg15.view.writes (Elt F) (harg15.unread xs3) LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_indexer_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0_indexer_backward_eq_skeleton]; unfold cc0_indexer_backward_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexact HS3
    iexists _; iexact HS4

end Cert.Kernel.Gen

end
-- ==== Proof.KRun.Frame.lean ====
/- THE FRAME of the kernel at its own formats: every execution ends, the arguments are as they were and every semaphore counter is at zero. What the
   kernel leaves in its results is not named here: the four output windows are handed to the body at any contents and taken back at any. -/
module

public import proofs.«01_k».proof.Proof.KRun.C
public import proofs.«01_k».proof.Proof.Gen.Kernel.Frame
public import Idealize.ShloMosaic.Lib.Pipeline.FrameBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the four outputs. -/
def forgets : Fin 10 → Bool := fun w => decide (6 ≤ w.val)

/-- The proof data: each input's buffer at its block, the outputs' unnamed, the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 8000000 in
/-- The body at a first query tile. -/
theorem sound_A (c : Dev nD) (t : Fin cfg0.N) (h0 : t.val % 8 = 0) :
    bodyPre m c t ⊢ wp frame (wpE (defs₀ (F := F)) Variants.none c none) Set.univ (bodyAt0 t) (fun _ => bodyPost m c t) := by
  have h1 : ¬ t.val % 8 = 7 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [PhiA0_eq]
  iintro ⟨⟨⟨HS0, HS1, HS2, ⟨%d3, HS3⟩, HS4⟩, Hg⟩, Ho, ⟨%d0, H0⟩, ⟨%d1, H1⟩, ⟨%d2, H2⟩, ⟨%dx3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, H8, ⟨%e9, H9⟩, ⟨%fT0, HS0⟩, ⟨%fT1, HS1⟩, ⟨%fT2, HS2⟩, HS3, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · iexists _; unfold owns; iexists _; isplitr
    swap; · iexact H7
    ipureintro; rfl
  isplitl [H8]; · iexists _; iexact H8
  iexists _; unfold owns; iexists _; isplitr
  swap; · iexact H9
  ipureintro; rfl

set_option maxHeartbeats 8000000 in
/-- The body at a middle query tile. -/
theorem sound_B (c : Dev nD) (t : Fin cfg0.N) (h0 : ¬ t.val % 8 = 0) (h1 : ¬ t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [PhiA0_eq]
  iintro ⟨⟨⟨HS0, HS1, HS2, ⟨%d3, HS3⟩, ⟨%d10, HS4⟩⟩, Hg⟩, Ho, ⟨%d0, H0⟩, ⟨%d1, H1⟩, ⟨%d2, H2⟩, ⟨%dx3, H3⟩, ⟨%d4, H4⟩, ⟨%d5, H5⟩, ⟨%d6, H6⟩, ⟨%d7, H7⟩, ⟨%d8, H8⟩, ⟨%d9, H9⟩⟩
  iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, H8, ⟨%e9, H9⟩, ⟨%fT0, HS0⟩, ⟨%fT1, HS1⟩, ⟨%fT2, HS2⟩, HS3, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · iexists _; unfold owns; iexists _; isplitr
    swap; · iexact H7
    ipureintro; rfl
  isplitl [H8]; · iexists _; iexact H8
  iexists _; unfold owns; iexists _; isplitr
  swap; · iexact H9
  ipureintro; rfl

set_option maxHeartbeats 8000000 in
/-- The body at a last query tile. -/
theorem sound_C (c : Dev nD) (t : Fin cfg0.N) (h1 : t.val % 8 = 7) :
    bodyPre m c t ⊢ wp frame (wpE (defs₀ (F := F)) Variants.none c none) Set.univ (bodyAt0 t) (fun _ => bodyPost m c t) := by
  have h0 : ¬ t.val % 8 = 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [PhiA0_eq]
  iintro ⟨⟨⟨HS0, HS1, HS2, ⟨%d3, HS3⟩, ⟨%d10, HS4⟩⟩, Hg⟩, Ho, ⟨%d0, H0⟩, ⟨%d1, H1⟩, ⟨%d2, H2⟩, ⟨%dx3, H3⟩, ⟨%d4, H4⟩, ⟨%d5, H5⟩, ⟨%d6, H6⟩, ⟨%d7, H7⟩, ⟨%d8, H8⟩, ⟨%d9, H9⟩⟩
  iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%e7, H7⟩, ⟨%e8, H8⟩, ⟨%e9, H9⟩, ⟨%fT0, HS0⟩, ⟨%fT1, HS1⟩, ⟨%fT2, HS2⟩, HS3, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; unfold owns; iexists _; isplitr
    swap; · iexact H6
    ipureintro; rfl
  isplitl [H7]
  · iexists _; unfold owns; iexists _; isplitr
    swap; · iexact H7
    ipureintro; rfl
  isplitl [H8]
  · iexists _; unfold owns; iexists _; isplitr
    swap; · iexact H8
    ipureintro; rfl
  iexists _; unfold owns; iexists _; isplitr
  swap; · iexact H9
  ipureintro; rfl

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h1 : t.val % 8 = 7
    · exact sound_C m c t h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, with the outputs forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

-- the launch theorem's implicit arguments are found by unifying its conclusion with this one, which takes unfolding plain definitions in a
-- metavariable's type
set_option backward.isDefEq.respectTransparency.types false in
/-- Every execution ends, with the inputs and every buffer outside the pipeline as the region found them and the counters at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.Run.Points.lean ====
/- WHERE THE KERNEL BRANCHES: which grid points take which of the body's two conditionals, which windows it leaves
   alone there, and the names of its staging buffers and scratch. -/
module

public import proofs.«01_k».proof.Proof.Gen.KernelIdeal.Frame
public import proofs.«01_k».proof.Proof.Gen.KernelIdeal.Skeleton

@[expose] public section

-- rectangles of 1024 by 384 are looked through coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- Window 9 is never idle (an output stored at every point, under no condition). -/
theorem liveAt0_9 : ∀ t : Fin cfg0.N, cfg0.idle 9 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1x1x384 .f32 := (Memref.whole cc0_stg6_0 : Memref sig .tc .vmem S1x1x384 .f32).view
/-- One staging buffer of output window 7, through which its contents are stated (`View.read_writes_of_cover`: the
    choice does not matter). -/
abbrev VO0_7 : View sig .tc .vmem S1x3x16x64x128 .f32 := (Memref.whole cc0_stg7_0 : Memref sig .tc .vmem S1x3x16x64x128 .f32).view
/-- One staging buffer of output window 8, through which its contents are stated (`View.read_writes_of_cover`: the
    choice does not matter). -/
abbrev VO0_8 : View sig .tc .vmem S1x384x128 .f32 := (Memref.whole cc0_stg8_0 : Memref sig .tc .vmem S1x384x128 .f32).view
/-- One staging buffer of output window 9, through which its contents are stated (`View.read_writes_of_cover`: the
    choice does not matter). -/
abbrev VO0_9 : View sig .tc .vmem S1x3x16x64 .f32 := (Memref.whole cc0_stg9_0 : Memref sig .tc .vmem S1x3x16x64 .f32).view
/-- Each window's current staging memref at point `t`, spelled as the pipeline passes it (`bodyAt0`), and its wholeness. -/
abbrev ms0_0 (t : Fin cfg0.N) : Memref sig .tc .vmem S1x3x16x64x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x16x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x16x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3x16x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x16x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x384 .f32 := Memref.whole cc0_scratch0
abbrev scM0_1 : Memref sig .tc .vmem S1024x384 .bf16 := Memref.whole cc0_scratch1
abbrev scM0_2 : Memref sig .tc .vmem S1024x384 .bf16 := Memref.whole cc0_scratch2
abbrev scM0_3 : Memref sig .tc .vmem S384x128 .f32 := Memref.whole cc0_scratch3
abbrev scM0_4 : Memref sig .tc .vmem S128x384 .f32 := Memref.whole cc0_scratch4
/-- The scratch `arg15` the kernel carries between points, as a view: what it holds is stated through it. -/
abbrev VS0_3 : View sig .tc .vmem S384x128 .f32 := scM0_3.view
/-- The scratch `arg16` the kernel carries between points, as a view: what it holds is stated through it. -/
abbrev VS0_4 : View sig .tc .vmem S128x384 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.Run.A.lean ====
/- THE KERNEL BODY RUN ONCE at the first query tile of a batch element. -/
module

public import proofs.«01_k».proof.Proof.Run.Points

@[expose] public section

-- rectangles of 1024 by 384 are looked through coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2740000 in
/-- One run of the kernel body at the first query tile of a batch element: from whole staging buffers holding the input blocks `x0 … x5`, the stores it makes into
    each output block and into each scratch, last first (the pieces are found by running the body). -/
noncomputable def kernelRun0_A (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole) (hc0 : cond0_0 i) (hc1 : ¬cond0_1 i)
    (x0 : Vec F S1x3x16x64x128 .fp8e4m3) (x1 : Vec F S1x3x16x64 .f32) (x2 : Vec F S1x3x16x64 .bf16) (x3 : Vec F S1x384x128 .fp8e4m3) (x4 : Vec F S1x1x384 .f32) (x5 : Vec F S1x3x16x384 .f32) :
    Σ' (L6 : List (View.Piece (Elt F) S1x1x384 .f32)), Σ' (L7 : List (View.Piece (Elt F) S1x3x16x64x128 .f32)), Σ' (L8 : List (View.Piece (Elt F) S1x384x128 .f32)), Σ' (L9 : List (View.Piece (Elt F) S1x3x16x64 .f32)), Σ' (LS3 : List (View.Piece (Elt F) S384x128 .f32)), Σ' (LS4 : List (View.Piece (Elt F) S128x384 .f32)), Σ' (LT0 : List (View.Piece (Elt F) S1024x384 .f32)), Σ' (LT1 : List (View.Piece (Elt F) S1024x384 .bf16)), { LT2 : List (View.Piece (Elt F) S1024x384 .bf16) //
      ∀ (xi6 : Vec F S1x1x384 .f32) (xi8 : Vec F S1x384x128 .f32) (xs3 : Vec F S384x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (arg15.view.loc (c : Thread nD τ) ↦[arg15.view.set]{fullShare} arg15.view.writes (Elt F) (harg15.unread xs3) LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_indexer_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, [], ?_, ?_, ?_, ?_, ?_, ?_, fun xi6 xi8 xs3 E K => ?run⟩
  case run =>
    simp only [cc0_indexer_backward_eq_skeleton]; unfold cc0_indexer_backward_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%ds0, %fs0, -, HS0⟩, ⟨%ds1, %fs1, -, HS1⟩, ⟨%ds2, %fs2, -, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg15.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    isplitl [HS3]; · iexact HS3
    iexists _; iexact HS4

end Cert.KernelIdeal.Gen

end
-- ==== Proof.Run.B.lean ====
/- THE KERNEL BODY RUN ONCE at a middle query tile. -/
module

public import proofs.«01_k».proof.Proof.Run.A

@[expose] public section

-- rectangles of 1024 by 384 are looked through coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2716000 in
/-- One run of the kernel body at a middle query tile: from whole staging buffers holding the input blocks `x0 … x5`, the stores it makes into
    each output block and into each scratch, last first (the pieces are found by running the body). -/
noncomputable def kernelRun0_B (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole) (hc0 : ¬cond0_0 i) (hc1 : ¬cond0_1 i)
    (x0 : Vec F S1x3x16x64x128 .fp8e4m3) (x1 : Vec F S1x3x16x64 .f32) (x2 : Vec F S1x3x16x64 .bf16) (x3 : Vec F S1x384x128 .fp8e4m3) (x4 : Vec F S1x1x384 .f32) (x5 : Vec F S1x3x16x384 .f32) (xs4 : Vec F S128x384 .f32) :
    Σ' (L6 : List (View.Piece (Elt F) S1x1x384 .f32)), Σ' (L7 : List (View.Piece (Elt F) S1x3x16x64x128 .f32)), Σ' (L8 : List (View.Piece (Elt F) S1x384x128 .f32)), Σ' (L9 : List (View.Piece (Elt F) S1x3x16x64 .f32)), Σ' (LS3 : List (View.Piece (Elt F) S384x128 .f32)), Σ' (LS4 : List (View.Piece (Elt F) S128x384 .f32)), Σ' (LT0 : List (View.Piece (Elt F) S1024x384 .f32)), Σ' (LT1 : List (View.Piece (Elt F) S1024x384 .bf16)), { LT2 : List (View.Piece (Elt F) S1024x384 .bf16) //
      ∀ (xi6 : Vec F S1x1x384 .f32) (xi8 : Vec F S1x384x128 .f32) (xs3 : Vec F S384x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (arg15.view.loc (c : Thread nD τ) ↦[arg15.view.set]{fullShare} arg15.view.writes (Elt F) (harg15.unread xs3) LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_indexer_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, [], ?_, ?_, ?_, ?_, ?_, ?_, fun xi6 xi8 xs3 E K => ?run⟩
  case run =>
    simp only [cc0_indexer_backward_eq_skeleton]; unfold cc0_indexer_backward_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    isplitl [HS3]; · iexact HS3
    iexists _; iexact HS4

end Cert.KernelIdeal.Gen

end
-- ==== Proof.Run.C.lean ====
/- THE KERNEL BODY RUN ONCE at the last query tile of a batch element. -/
module

public import proofs.«01_k».proof.Proof.Run.B

@[expose] public section

-- rectangles of 1024 by 384 are looked through coordinate by coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2780000 in
/-- One run of the kernel body at the last query tile of a batch element: from whole staging buffers holding the input blocks `x0 … x5`, the stores it makes into
    each output block and into each scratch, last first (the pieces are found by running the body). -/
noncomputable def kernelRun0_C (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole) (hc0 : ¬cond0_0 i) (hc1 : cond0_1 i)
    (x0 : Vec F S1x3x16x64x128 .fp8e4m3) (x1 : Vec F S1x3x16x64 .f32) (x2 : Vec F S1x3x16x64 .bf16) (x3 : Vec F S1x384x128 .fp8e4m3) (x4 : Vec F S1x1x384 .f32) (x5 : Vec F S1x3x16x384 .f32) (xs3 : Vec F S384x128 .f32) (xs4 : Vec F S128x384 .f32) :
    Σ' (L6 : List (View.Piece (Elt F) S1x1x384 .f32)), Σ' (L7 : List (View.Piece (Elt F) S1x3x16x64x128 .f32)), Σ' (L8 : List (View.Piece (Elt F) S1x384x128 .f32)), Σ' (L9 : List (View.Piece (Elt F) S1x3x16x64 .f32)), Σ' (LS3 : List (View.Piece (Elt F) S384x128 .f32)), Σ' (LS4 : List (View.Piece (Elt F) S128x384 .f32)), Σ' (LT0 : List (View.Piece (Elt F) S1024x384 .f32)), Σ' (LT1 : List (View.Piece (Elt F) S1024x384 .bf16)), { LT2 : List (View.Piece (Elt F) S1024x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (arg15.view.loc (c : Thread nD τ) ↦[arg15.view.set]{fullShare} arg15.view.writes (Elt F) (harg15.unread xs3) LS3) ∗ (∃ f, arg16.view.loc (c : Thread nD τ) ↦[arg16.view.set]{fullShare} arg16.view.writes (Elt F) f LS4)) -∗ K ⟨⟩))
          ⊢ wp frame (wpE (defs₀ (F := F)) Variants.none c none) E (cc0_indexer_backward i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0_indexer_backward_eq_skeleton]; unfold cc0_indexer_backward_skel
    simp only [k0_part48_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexact HS3
    iexists _; iexact HS4

end Cert.KernelIdeal.Gen

end
-- ==== Proof.Val.Row.lean ====
/- THE MATHEMATICS OF ONE QUERY TOKEN, as the kernel computes it: the indexer scores of the token against all 384 keys, the log-softmax over
   the keys it may see, the divergence from the target distribution, and the gradients. Every entry the kernel stores is one of these
   functions of the token's own data (`Row`), or (the key gradient) a sum of them over tokens. -/
module

public import Idealize.ShloMosaic.Lib.Pointwise

@[expose] public section

noncomputable section

namespace Cert.KernelIdeal.Hand

open Idealize.ShloMosaic

/-- What one query token is computed from: its 64 query vectors, their scales and head weights, the keys and their scales, the target
    distribution over the keys, and the token's position `T`: it may see the keys at positions up to `T`. -/
structure Row where
  q : Fin 64 → Fin 128 → EReal
  qs : Fin 64 → EReal
  w : Fin 64 → EReal
  k : Fin 384 → Fin 128 → EReal
  ks : Fin 384 → EReal
  p : Fin 384 → EReal
  T : ℕ

namespace Row

variable (r : Row)

/-- The score of head `j` against key `s`, negative scores replaced by zero. -/
def X (j : Fin 64) (s : Fin 384) : EReal := max (∑ c : Fin 128, r.q j c * r.k s c) 0

/-- The token's weighted score of key `s`. -/
def idx (s : Fin 384) : EReal := (∑ j : Fin 64, r.X j s * (r.w j * r.qs j)) * r.ks s

/-- The largest weighted score among the keys the token may see. -/
def top : EReal := Finset.univ.fold max ⊥ fun s : Fin 384 => if s.val ≤ r.T then r.idx s else ⊥

/-- The sum of the exponentials of the visible scores, each less the largest. -/
def mass : EReal := ∑ s : Fin 384, if s.val ≤ r.T then Ideal.exp (r.idx s - r.top) else 0

/-- The logarithm of the softmax over the visible keys. -/
def logq (s : Fin 384) : EReal := r.idx s - (r.top + Ideal.log r.mass)

/-- The divergence of the softmax from the target distribution. -/
def kl : EReal := ∑ s : Fin 384, if s.val ≤ r.T then r.p s * (Ideal.log (r.p s) - r.logq s) else 0

/-- The derivative of the divergence by the weighted score of key `s`. -/
def d (s : Fin 384) : EReal := (if s.val ≤ r.T then Ideal.exp (r.logq s) else 0) - r.p s

/-- The weight of key `s` in the gradient of head `j`'s query vector. -/
def wq (j : Fin 64) (s : Fin 384) : EReal := if 0 < r.X j s then r.w j * (r.d s * r.ks s) else 0

/-- The weight of head `j`'s query vector in the gradient of key `s`. -/
def wk (j : Fin 64) (s : Fin 384) : EReal := if 0 < r.X j s then r.w j * r.qs j * r.d s else 0

/-- The gradient of the query vectors, over the first `n` keys. -/
def dq (n : ℕ) (j : Fin 64) (c : Fin 128) : EReal := ∑ s : Fin 384, if s.val < n then r.wq j s * r.k s c else 0

/-- The gradient of the head weights, over the first `n` keys. -/
def dw (n : ℕ) (j : Fin 64) : EReal := (∑ s : Fin 384, if s.val < n then r.X j s * (r.d s * r.ks s) else 0) * r.qs j

/-- The token's part of the gradient of key `s`. -/
def dk (s : Fin 384) (c : Fin 128) : EReal := ∑ j : Fin 64, r.q j c * r.wk j s

end Row

/-- A sum over the first `n` of 384 keys is the sum over all of them of the terms below `n`. -/
theorem sum_castLE {n : ℕ} (h : n ≤ 384) (f : Fin 384 → EReal) :
    ∑ x : Fin n, f (Fin.castLE h x) = ∑ s : Fin 384, if s.val < n then f s else 0 := by
  rw [← Finset.sum_filter]
  refine Finset.sum_bij (fun x _ => Fin.castLE h x) ?_ ?_ ?_ ?_
  · intro x _; simp
  · intro x _ y _ e; exact Fin.castLE_injective h e
  · intro s hs; exact ⟨⟨s.val, by simpa using hs⟩, Finset.mem_univ _, by ext; simp⟩
  · intro x _; rfl

/-- The same where the terms from `n` on are zero. -/
theorem sum_castLE_of_zero {n : ℕ} (h : n ≤ 384) (f : Fin 384 → EReal) (hz : ∀ s : Fin 384, n ≤ s.val → f s = 0) :
    ∑ x : Fin n, f (Fin.castLE h x) = ∑ s : Fin 384, f s := by
  rw [sum_castLE h f]
  refine Finset.sum_congr rfl fun s _ => ?_
  split_ifs with hs
  · rfl
  · exact (hz s (by omega)).symm

/-- The largest of the first `n` of 384 values is the largest of all, where the values from `n` on are the least. -/
theorem fold_castLE {n : ℕ} (h : n ≤ 384) (f : Fin 384 → EReal) (hz : ∀ s : Fin 384, n ≤ s.val → f s = ⊥) :
    (Finset.univ.fold max ⊥ fun x : Fin n => f (Fin.castLE h x)) = Finset.univ.fold max ⊥ f := by
  have e : ∀ (m : ℕ) (g : Fin m → EReal), Finset.univ.fold max ⊥ g = Finset.univ.sup g := fun _ _ => rfl
  rw [e, e]
  apply le_antisymm
  · exact Finset.sup_le fun x _ => Finset.le_sup (f := f) (Finset.mem_univ (Fin.castLE h x))
  · refine Finset.sup_le fun s _ => ?_
    by_cases hs : s.val < n
    · exact Finset.le_sup (f := fun x : Fin n => f (Fin.castLE h x)) (Finset.mem_univ (⟨s.val, hs⟩ : Fin n))
    · rw [hz s (by omega)]; exact bot_le

end Cert.KernelIdeal.Hand
-- ==== Proof.Val.Base.lean ====
/- THE KERNEL'S READS, one level above the operations: what a load of 64 rows of the score scratch reads, what a load of the whole of a scratch
   filled 64 rows at a time reads, the visibility mask as a comparison of positions, and the log-softmax of a block of keys. -/
module

public import proofs.«01_k».proof.Proof.Run.C
public import proofs.«01_k».proof.Proof.Val.Row
public import Idealize.ShloMosaic.Lib.Pipeline.ReadBack
public import Idealize.ShloMosaic.Lib.Pipeline.ValueKit
public import Idealize.ShloMosaic.Lib.Pipeline.CanonAppend
public import Idealize.ShloMosaic.Lib.Pointwise
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- The data of query token `t` of query block `b`, from the input windows of the grid point with query tile `n`. -/
def row (x0 : Vec Ideal S1x3x16x64x128 .fp8e4m3) (x1 : Vec Ideal S1x3x16x64 .f32) (x2 : Vec Ideal S1x3x16x64 .bf16) (x3 : Vec Ideal S1x384x128 .fp8e4m3)
    (x4 : Vec Ideal S1x1x384 .f32) (x5 : Vec Ideal S1x3x16x384 .f32) (n : ℕ) (b : Fin 3) (t : Fin 16) : Row where
  q j k := x0 (ix5 0 b t j k)
  qs j := x1 (ix4 0 b t j)
  w j := x2 (ix4 0 b t j)
  k s k := x3 (ix3 0 s k)
  ks s := x4 (ix3 0 0 s)
  p s := x5 (ix4 0 b t s)
  T := 128 * b.val + 16 * n + t.val

/-- A load of 64 rows from row `o`, right after a store of the first `N` columns of every row, reads that store's rows from `o`. -/
theorem rc_x {N : ℕ} {sg : RefSig} {κ : Kind} {sp : Space} (v : View sg κ sp S1024x384 .f32) (L : List (View.Piece (Elt Ideal) S1024x384 .f32)) (o : ℕ)
    (inb : ∀ a, (![0, 0] : Fin 2 → ℕ) a + (![1024, N] : Fin 2 → ℕ) a ≤ S1024x384.size a)
    (inb' : ∀ a, (![o, 0] : Fin 2 → ℕ) a + (![64, N] : Fin 2 → ℕ) a ≤ S1024x384.size a)
    (P : FVec Ideal ⟨2, ![1024, N]⟩ .f32) (j : Fin 64) (s : Fin N) :
    v.readCov ((⟨Rect.unit (s := S1024x384) ![0, 0] ![1024, N] inb, P⟩ : View.Piece (Elt Ideal) S1024x384 .f32) :: L) (Rect.unit (s := S1024x384) ![o, 0] ![64, N] inb').toLoadRect (ix2 j s)
      = P (ix2 ⟨o + j.val, by have h := inb' 0; have := j.isLt; have e : S1024x384.size 0 = 1024 := rfl; simp [e] at h; omega⟩ s) := by
  rw [View.readCov_eq_canon']
  beta_reduce
  rw [show (Rect.unit (s := S1024x384) ![o, 0] ![64, N] inb').toLoadRect.idx (ix2 j s) = (Rect.unit (s := S1024x384) ![0,0] ![1024, N] inb).emb (ix2 ⟨o + j.val, by have h := inb' 0; have := j.isLt; have e : S1024x384.size 0 = 1024 := rfl; simp [e] at h; omega⟩ s) from ?_, View.canon_cons_emb]
  funext a; apply Fin.ext
  fin_cases a
  · show o + 1 * j.val = 0 + 1 * (o + j.val); omega
  · show 0 + 1 * s.val = 0 + 1 * s.val; rfl

/-- A load of the first `N` columns of every row, right after sixteen stores of 64 rows each (the last rows stored last), reads at row
    `64 t + j` row `j` of store `t`. -/
theorem rc_rows {e : EltTy} {N : ℕ} {sg : RefSig} {κ : Kind} {sp : Space} (v : View sg κ sp S1024x384 e) (P : Fin 16 → Vec Ideal ⟨2, ![64, N]⟩ e)
    (inb : ∀ u : Fin 16, ∀ a, (![64 * u.val, 0] : Fin 2 → ℕ) a + (![64, N] : Fin 2 → ℕ) a ≤ S1024x384.size a)
    (L' : List (View.Piece (Elt Ideal) S1024x384 e))
    (inb' : ∀ a, (![0, 0] : Fin 2 → ℕ) a + (![1024, N] : Fin 2 → ℕ) a ≤ S1024x384.size a)
    (t : Fin 16) (j : Fin 64) (s : Fin N) (r : Fin 1024) (hr : r.val = 64 * t.val + j.val) :
    v.readCov ((List.ofFn fun u : Fin 16 => (⟨Rect.unit (s := S1024x384) ![64 * (Fin.rev u).val, 0] ![64, N] (inb _), P (Fin.rev u)⟩ : View.Piece (Elt Ideal) S1024x384 e)) ++ L')
      (Rect.unit (s := S1024x384) ![0, 0] ![1024, N] inb').toLoadRect (ix2 r s) = P t (ix2 j s) := by
  rw [View.readCov_eq_canon']
  beta_reduce
  have hy0 : (((Rect.unit (s := S1024x384) ![0, 0] ![1024, N] inb').toLoadRect.idx (ix2 r s)) 0).val = r.val := by
    show 0 + 1 * r.val = r.val; omega
  have hy1 : (((Rect.unit (s := S1024x384) ![0, 0] ![1024, N] inb').toLoadRect.idx (ix2 r s)) 1).val = s.val := by
    show 0 + 1 * s.val = s.val; omega
  let G : S1024x384.Idx → Elt Ideal e := fun y =>
    if h : (y 1).val < N then P ⟨(y 0).val / 64, by have : (y 0).val < 1024 := (y 0).isLt; omega⟩ (ix2 ⟨(y 0).val % 64, by omega⟩ ⟨(y 1).val, h⟩) else P 0 (ix2 0 s)
  rw [View.canon_append_of_pieces G L' _ ?_ _ ?_]
  · simp only [G]
    have h1 : (((Rect.unit (s := S1024x384) ![0, 0] ![1024, N] inb').toLoadRect.idx (ix2 r s)) 1).val < N := by rw [hy1]; exact s.isLt
    rw [dif_pos h1]
    have e1 : (⟨(((Rect.unit (s := S1024x384) ![0, 0] ![1024, N] inb').toLoadRect.idx (ix2 r s)) 0).val / 64, by rw [hy0]; omega⟩ : Fin 16) = t := Fin.ext (by simp only [hy0]; omega)
    have e2 : (⟨(((Rect.unit (s := S1024x384) ![0, 0] ![1024, N] inb').toLoadRect.idx (ix2 r s)) 0).val % 64, by omega⟩ : Fin 64) = j := Fin.ext (by simp only [hy0]; omega)
    have e3 : (⟨(((Rect.unit (s := S1024x384) ![0, 0] ![1024, N] inb').toLoadRect.idx (ix2 r s)) 1).val, h1⟩ : Fin N) = s := Fin.ext hy1
    rw [e1, e2, e3]
  · intro p hp x
    rw [List.mem_ofFn] at hp
    obtain ⟨u, rfl⟩ := hp
    have hx0 : (x 0).val < 64 := (x 0).isLt
    have hx1 : (x 1).val < N := (x 1).isLt
    have e0 : ((Rect.unit (s := S1024x384) ![64 * (Fin.rev u).val, 0] ![64, N] (inb _)).emb x 0).val = 64 * (Fin.rev u).val + (x 0).val := by
      show 64 * (Fin.rev u).val + 1 * (x 0).val = _; omega
    have e1 : ((Rect.unit (s := S1024x384) ![64 * (Fin.rev u).val, 0] ![64, N] (inb _)).emb x 1).val = (x 1).val := by
      show 0 + 1 * (x 1).val = _; omega
    have hu : (Fin.rev u).val < 16 := (Fin.rev u).isLt
    have h1 : ((Rect.unit (s := S1024x384) ![64 * (Fin.rev u).val, 0] ![64, N] (inb _)).emb x 1).val < N := by rw [e1]; exact hx1
    show P (Fin.rev u) x = G _
    simp only [G]
    rw [dif_pos h1]
    have q1 : (⟨((Rect.unit (s := S1024x384) ![64 * (Fin.rev u).val, 0] ![64, N] (inb _)).emb x 0).val / 64, by rw [e0]; omega⟩ : Fin 16) = Fin.rev u := Fin.ext (by simp only [e0]; omega)
    have q2 : (⟨((Rect.unit (s := S1024x384) ![64 * (Fin.rev u).val, 0] ![64, N] (inb _)).emb x 0).val % 64, by omega⟩ : Fin 64) = x 0 := Fin.ext (by simp only [e0]; omega)
    have q3 : (⟨((Rect.unit (s := S1024x384) ![64 * (Fin.rev u).val, 0] ![64, N] (inb _)).emb x 1).val, h1⟩ : Fin N) = x 1 := Fin.ext e1
    rw [q1, q2, q3]
    congr 1; funext a; fin_cases a <;> rfl
  · refine ⟨_, (List.mem_ofFn).mpr ⟨Fin.rev t, rfl⟩, ?_⟩
    have : (Rect.unit (s := S1024x384) ![0, 0] ![1024, N] inb').toLoadRect.idx (ix2 r s)
        = (Rect.unit (s := S1024x384) ![64 * (Fin.rev (Fin.rev t)).val, 0] ![64, N] (inb _)).emb (ix2 j s) := by
      funext a; apply Fin.ext
      fin_cases a
      · show 0 + 1 * r.val = 64 * (Fin.rev (Fin.rev t)).val + 1 * j.val
        rw [Fin.rev_rev]; omega
      · rfl
    rw [this]
    rw [← Rect.map_emb_univ]; exact Finset.mem_map_of_mem _ (Finset.mem_univ _)

/-- The same for sixteen stores written out one by one. -/
theorem rc_rows' {e : EltTy} {N : ℕ} {sg : RefSig} {κ : Kind} {sp : Space} (v : View sg κ sp S1024x384 e)
    (p0 p1 p2 p3 p4 p5 p6 p7 p8 p9 p10 p11 p12 p13 p14 p15 : Vec Ideal ⟨2, ![64, N]⟩ e)
    (i0 : ∀ a, (![0, 0] : Fin 2 → ℕ) a + (![64, N] : Fin 2 → ℕ) a ≤ S1024x384.size a) (i1 : ∀ a, (![64, 0] : Fin 2 → ℕ) a + (![64, N] : Fin 2 → ℕ) a ≤ S1024x384.size a) (i2 : ∀ a, (![128, 0] : Fin 2 → ℕ) a + (![64, N] : Fin 2 → ℕ) a ≤ S1024x384.size a) (i3 : ∀ a, (![192, 0] : Fin 2 → ℕ) a + (![64, N] : Fin 2 → ℕ) a ≤ S1024x384.size a) (i4 : ∀ a, (![256, 0] : Fin 2 → ℕ) a + (![64, N] : Fin 2 → ℕ) a ≤ S1024x384.size a) (i5 : ∀ a, (![320, 0] : Fin 2 → ℕ) a + (![64, N] : Fin 2 → ℕ) a ≤ S1024x384.size a) (i6 : ∀ a, (![384, 0] : Fin 2 → ℕ) a + (![64, N] : Fin 2 → ℕ) a ≤ S1024x384.size a) (i7 : ∀ a, (![448, 0] : Fin 2 → ℕ) a + (![64, N] : Fin 2 → ℕ) a ≤ S1024x384.size a) (i8 : ∀ a, (![512, 0] : Fin 2 → ℕ) a + (![64, N] : Fin 2 → ℕ) a ≤ S1024x384.size a) (i9 : ∀ a, (![576, 0] : Fin 2 → ℕ) a + (![64, N] : Fin 2 → ℕ) a ≤ S1024x384.size a) (i10 : ∀ a, (![640, 0] : Fin 2 → ℕ) a + (![64, N] : Fin 2 → ℕ) a ≤ S1024x384.size a) (i11 : ∀ a, (![704, 0] : Fin 2 → ℕ) a + (![64, N] : Fin 2 → ℕ) a ≤ S1024x384.size a) (i12 : ∀ a, (![768, 0] : Fin 2 → ℕ) a + (![64, N] : Fin 2 → ℕ) a ≤ S1024x384.size a) (i13 : ∀ a, (![832, 0] : Fin 2 → ℕ) a + (![64, N] : Fin 2 → ℕ) a ≤ S1024x384.size a) (i14 : ∀ a, (![896, 0] : Fin 2 → ℕ) a + (![64, N] : Fin 2 → ℕ) a ≤ S1024x384.size a) (i15 : ∀ a, (![960, 0] : Fin 2 → ℕ) a + (![64, N] : Fin 2 → ℕ) a ≤ S1024x384.size a)
    (L' : List (View.Piece (Elt Ideal) S1024x384 e)) (inb' : ∀ a, (![0, 0] : Fin 2 → ℕ) a + (![1024, N] : Fin 2 → ℕ) a ≤ S1024x384.size a)
    (t : Fin 16) (j : Fin 64) (s : Fin N) (r : Fin 1024) (hr : r.val = 64 * t.val + j.val) :
    v.readCov ((⟨Rect.unit (s := S1024x384) ![960, 0] ![64, N] i15, p15⟩ : View.Piece (Elt Ideal) S1024x384 e) ::
        (⟨Rect.unit (s := S1024x384) ![896, 0] ![64, N] i14, p14⟩ : View.Piece (Elt Ideal) S1024x384 e) ::
        (⟨Rect.unit (s := S1024x384) ![832, 0] ![64, N] i13, p13⟩ : View.Piece (Elt Ideal) S1024x384 e) ::
        (⟨Rect.unit (s := S1024x384) ![768, 0] ![64, N] i12, p12⟩ : View.Piece (Elt Ideal) S1024x384 e) ::
        (⟨Rect.unit (s := S1024x384) ![704, 0] ![64, N] i11, p11⟩ : View.Piece (Elt Ideal) S1024x384 e) ::
        (⟨Rect.unit (s := S1024x384) ![640, 0] ![64, N] i10, p10⟩ : View.Piece (Elt Ideal) S1024x384 e) ::
        (⟨Rect.unit (s := S1024x384) ![576, 0] ![64, N] i9, p9⟩ : View.Piece (Elt Ideal) S1024x384 e) ::
        (⟨Rect.unit (s := S1024x384) ![512, 0] ![64, N] i8, p8⟩ : View.Piece (Elt Ideal) S1024x384 e) ::
        (⟨Rect.unit (s := S1024x384) ![448, 0] ![64, N] i7, p7⟩ : View.Piece (Elt Ideal) S1024x384 e) ::
        (⟨Rect.unit (s := S1024x384) ![384, 0] ![64, N] i6, p6⟩ : View.Piece (Elt Ideal) S1024x384 e) ::
        (⟨Rect.unit (s := S1024x384) ![320, 0] ![64, N] i5, p5⟩ : View.Piece (Elt Ideal) S1024x384 e) ::
        (⟨Rect.unit (s := S1024x384) ![256, 0] ![64, N] i4, p4⟩ : View.Piece (Elt Ideal) S1024x384 e) ::
        (⟨Rect.unit (s := S1024x384) ![192, 0] ![64, N] i3, p3⟩ : View.Piece (Elt Ideal) S1024x384 e) ::
        (⟨Rect.unit (s := S1024x384) ![128, 0] ![64, N] i2, p2⟩ : View.Piece (Elt Ideal) S1024x384 e) ::
        (⟨Rect.unit (s := S1024x384) ![64, 0] ![64, N] i1, p1⟩ : View.Piece (Elt Ideal) S1024x384 e) ::
        (⟨Rect.unit (s := S1024x384) ![0, 0] ![64, N] i0, p0⟩ : View.Piece (Elt Ideal) S1024x384 e) :: L')
      (Rect.unit (s := S1024x384) ![0, 0] ![1024, N] inb').toLoadRect (ix2 r s) = (![p0, p1, p2, p3, p4, p5, p6, p7, p8, p9, p10, p11, p12, p13, p14, p15] : Fin 16 → Vec Ideal ⟨2, ![64, N]⟩ e) t (ix2 j s) := by
  have hN : N ≤ 384 := by have := inb' 1; simpa using this
  exact rc_rows v (![p0, p1, p2, p3, p4, p5, p6, p7, p8, p9, p10, p11, p12, p13, p14, p15] : Fin 16 → Vec Ideal ⟨2, ![64, N]⟩ e)
    (fun u a => by
      fin_cases a
      · show 64 * u.val + 64 ≤ 1024; omega
      · show 0 + N ≤ 384; omega) L' inb' t j s r hr

/-- The mask the kernel computes for query block `b`, query tile `n`, token `t` and key `x` is the comparison of their positions. -/
theorem vis_word (n : Fin 8) (b : Fin 3) (t : Fin 16) (x : ℕ) (hx : x < 384) (B : BitVec 32) (hB : B = BitVec.ofNat 32 (128 * b.val)) (U : BitVec 32) (hU : U = BitVec.ofNat 32 t.val) :
    IntOp.cmpi CmpIPredicate.sle (BitVec.ofNat 32 x) (IntOp.addi (Scalar.addi B (Scalar.muli (BitVec.ofNat 32 n.val) 16#32)) U)
      = if x ≤ 128 * b.val + 16 * n.val + t.val then 1#1 else 0#1 := by
  subst hB hU
  have hn := n.isLt; have hb := b.isLt; have ht := t.isLt
  rw [show Scalar.muli (BitVec.ofNat 32 n.val) 16#32 = BitVec.ofNat 32 (n.val * 16) from (BitVec.ofNat_mul ..).symm]
  rw [show IntOp.addi (Scalar.addi (BitVec.ofNat 32 (128 * b.val)) (BitVec.ofNat 32 (n.val * 16))) (BitVec.ofNat 32 t.val) = BitVec.ofNat 32 (128 * b.val + n.val * 16 + t.val) from by
    simp only [BitVec.ofNat_add]; rfl]
  rw [WordCmp.cmpi_sle_ofNat (by omega) (by omega)]
  by_cases h : x ≤ 128 * b.val + 16 * n.val + t.val
  · rw [if_pos h, decide_eq_true (by omega)]; rfl
  · rw [if_neg h, decide_eq_false (by omega)]; rfl

/-- The mask selects: a choice by the comparison of positions. -/
theorem vis_select (n : Fin 8) (b : Fin 3) (t : Fin 16) (x : ℕ) (hx : x < 384) (B : BitVec 32) (hB : B = BitVec.ofNat 32 (128 * b.val)) (U : BitVec 32) (hU : U = BitVec.ofNat 32 t.val) (a c : EReal) :
    Scalar.select (IntOp.cmpi CmpIPredicate.sle (BitVec.ofNat 32 x) (IntOp.addi (Scalar.addi B (Scalar.muli (BitVec.ofNat 32 n.val) 16#32)) U)) a c
      = if x ≤ 128 * b.val + 16 * n.val + t.val then a else c := by
  rw [vis_word n b t x hx B hB U hU]; split_ifs <;> rfl

/-- A block's log-softmax at a key, from its weighted scores `I` and its visibility mask. -/
theorem logq_of (r : Row) {N : ℕ} (h : N ≤ 384) (hT : r.T < N) (I : Fin N → EReal) (hI : ∀ s, I s = r.idx (Fin.castLE h s))
    (vis : Fin N → BitVec 1) (hv : ∀ s, vis s = if s.val ≤ r.T then 1#1 else 0#1) (s : Fin N) :
    I s - ((Finset.univ.fold max (Ideal.ofBits FTy.f32 4286578688#32) fun x => Scalar.select (vis x) (I x) (Ideal.ofBits FTy.f32 4286578688#32))
        + Ideal.log (∑ x, Scalar.select (vis x) (Ideal.exp (I x -
            (Finset.univ.fold max (Ideal.ofBits FTy.f32 4286578688#32) fun x => Scalar.select (vis x) (I x) (Ideal.ofBits FTy.f32 4286578688#32)))) 0))
      = r.logq (Fin.castLE h s) := by
  have hb : Ideal.ofBits FTy.f32 4286578688#32 = ⊥ := by simp [Ideal.ofBits, Ideal.ieee]
  have hs : ∀ (x : Fin N) (a c : EReal), Scalar.select (vis x) a c = if x.val ≤ r.T then a else c := by
    intro x a c; rw [hv]; split_ifs <;> rfl
  have ht : (Finset.univ.fold max (Ideal.ofBits FTy.f32 4286578688#32) fun x => Scalar.select (vis x) (I x) (Ideal.ofBits FTy.f32 4286578688#32)) = r.top := by
    rw [hb, Row.top, ← fold_castLE h _ fun s hs => if_neg (by omega)]
    congr 1; funext x; rw [hs, hI]; rfl
  rw [ht, hI, Row.logq, Row.mass, ← sum_castLE_of_zero h _ fun s hs => if_neg (by omega)]
  congr 3
  refine Finset.sum_congr rfl fun x _ => ?_
  rw [hs, hI]; rfl

/-- A block's divergence, from its masked terms. -/
theorem kl_of (r : Row) {N : ℕ} (h : N ≤ 384) (hT : r.T < N) (f : Fin N → EReal)
    (hf : ∀ s, f s = if s.val ≤ r.T then r.p (Fin.castLE h s) * (Ideal.log (if s.val ≤ r.T then r.p (Fin.castLE h s) else 1) - r.logq (Fin.castLE h s)) else 0) :
    ∑ s, f s = r.kl := by
  rw [Row.kl, ← sum_castLE_of_zero h _ fun s hs => if_neg (by omega)]
  refine Finset.sum_congr rfl fun x _ => ?_
  rw [hf]
  by_cases hx : x.val ≤ r.T
  · rw [if_pos hx, if_pos hx, if_pos (show (Fin.castLE h x).val ≤ r.T from hx)]
  · rw [if_neg hx, if_neg (show ¬ (Fin.castLE h x).val ≤ r.T from hx)]

/-- One masked term of a block's divergence. -/
theorem kl_term (r : Row) (n : Fin 8) (b : Fin 3) (t : Fin 16) {N : ℕ} (s : Fin N) (h : N ≤ 384) (B : BitVec 32) (hB : B = BitVec.ofNat 32 (128 * b.val)) (U : BitVec 32) (hU : U = BitVec.ofNat 32 t.val)
    (hT : r.T = 128 * b.val + 16 * n.val + t.val) (P : EReal) (hP : P = r.p (Fin.castLE h s)) (q : EReal) (hq : q = r.logq (Fin.castLE h s)) :
    Scalar.select (IntOp.cmpi CmpIPredicate.sle (BitVec.ofNat 32 s.val) (IntOp.addi (Scalar.addi B (Scalar.muli (BitVec.ofNat 32 n.val) 16#32)) U))
        (P * (Ideal.log (Scalar.select (IntOp.cmpi CmpIPredicate.sle (BitVec.ofNat 32 s.val) (IntOp.addi (Scalar.addi B (Scalar.muli (BitVec.ofNat 32 n.val) 16#32)) U)) P 1) - q)) 0
      = if s.val ≤ r.T then r.p (Fin.castLE h s) * (Ideal.log (if s.val ≤ r.T then r.p (Fin.castLE h s) else 1) - r.logq (Fin.castLE h s)) else 0 := by
  rw [vis_select n b t s.val (by omega) B hB U hU, vis_select n b t s.val (by omega) B hB U hU, hT, hP, hq]

/-- A sum over the 1024 (token, head) rows of a block is a sum over its sixteen tokens of sums over the 64 heads. -/
theorem sum_rows (f : Fin 1024 → EReal) : ∑ r, f r = ∑ t : Fin 16, ∑ j : Fin 64, f ⟨64 * t.val + j.val, by omega⟩ := by
  rw [← Finset.sum_product', Finset.univ_product_univ]
  refine Finset.sum_bij' (fun r _ => ((⟨r.val / 64, by omega⟩ : Fin 16), (⟨r.val % 64, by omega⟩ : Fin 64))) (fun p _ => ⟨64 * p.1.val + p.2.val, by omega⟩) ?_ ?_ ?_ ?_ ?_
  · intro _ _; exact Finset.mem_univ _
  · intro _ _; exact Finset.mem_univ _
  · intro r _; apply Fin.ext; show 64 * (r.val / 64) + r.val % 64 = r.val; omega
  · intro p _; apply Prod.ext <;> apply Fin.ext
    · show (64 * p.1.val + p.2.val) / 64 = p.1.val; omega
    · show (64 * p.1.val + p.2.val) % 64 = p.2.val; omega
  · intro r _; congr 1; apply Fin.ext; show r.val = 64 * (r.val / 64) + r.val % 64; omega

end Cert.KernelIdeal.Hand
-- ==== Proof.Val.Blk0.lean ====
/- BLOCK 0 of the query tokens: what the kernel's words hold, entry by entry, in terms of the rows of `Row.lean`. -/
module

public import proofs.«01_k».proof.Proof.Val.Base

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole)
variable (x0 : Vec Ideal S1x3x16x64x128 .fp8e4m3) (x1 : Vec Ideal S1x3x16x64 .f32) (x2 : Vec Ideal S1x3x16x64 .bf16) (x3 : Vec Ideal S1x384x128 .fp8e4m3) (x4 : Vec Ideal S1x1x384 .f32) (x5 : Vec Ideal S1x3x16x384 .f32) (xs4 : Vec Ideal S128x384 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4

/-- The scores of block 0, as stored: row `64 t + j` is head `j` of token `t`. -/
theorem xP_0 (t : Fin 16) (j : Fin 64) (s : Fin 128) (r : Fin 1024) (hr : r.val = 64 * t.val + j.val) :
    (k0_pay12 (View.readAt (Elt Ideal) arg5.view (Rect.unit (s := S1x384x128) ![0, 0, 0] S1x384x128.size inb_S1x384x128_S1x384x128_0_0_0).toLoadRect (harg5.unread x3)) (View.readAt (Elt Ideal) arg2.view (Rect.unit (s := S1x3x16x64x128) ![0, 0, 0, 0, 0] S1x1x16x64x128.size inb_S1x3x16x64x128_S1x1x16x64x128_0_0_0_0_0).toLoadRect (harg2.unread x0))) (ix2 r s) = (row x0 x1 x2 x3 x4 x5 (i 1).val 0 t).X j (Fin.castLE (by omega) s) := by
  have h1 : r.val / 64 = t.val := by omega
  have h2 : r.val % 64 = j.val := by omega
  simp only [k0_pay7, k0_pay11, k0_pay12, View.readAt_eq_ld, Memref.IsWhole.read_unread]
  pointwise []
  simp only [h1, h2]
  rfl

/-- The scores of block 0, as the loads of a token read them. -/
theorem x_0 (t : Fin 16) (j : Fin 64) (s : Fin 128) :
    (![kernelRun0_B.sl.v26 c arg2 harg2 arg5 harg5 arg12 x0 x3, kernelRun0_B.sl.v32 c arg2 harg2 arg5 harg5 arg12 x0 x3, kernelRun0_B.sl.v38 c arg2 harg2 arg5 harg5 arg12 x0 x3, kernelRun0_B.sl.v44 c arg2 harg2 arg5 harg5 arg12 x0 x3, kernelRun0_B.sl.v50 c arg2 harg2 arg5 harg5 arg12 x0 x3, kernelRun0_B.sl.v56 c arg2 harg2 arg5 harg5 arg12 x0 x3, kernelRun0_B.sl.v62 c arg2 harg2 arg5 harg5 arg12 x0 x3, kernelRun0_B.sl.v68 c arg2 harg2 arg5 harg5 arg12 x0 x3, kernelRun0_B.sl.v74 c arg2 harg2 arg5 harg5 arg12 x0 x3, kernelRun0_B.sl.v80 c arg2 harg2 arg5 harg5 arg12 x0 x3, kernelRun0_B.sl.v86 c arg2 harg2 arg5 harg5 arg12 x0 x3, kernelRun0_B.sl.v92 c arg2 harg2 arg5 harg5 arg12 x0 x3, kernelRun0_B.sl.v98 c arg2 harg2 arg5 harg5 arg12 x0 x3, kernelRun0_B.sl.v104 c arg2 harg2 arg5 harg5 arg12 x0 x3, kernelRun0_B.sl.v110 c arg2 harg2 arg5 harg5 arg12 x0 x3, kernelRun0_B.sl.v116 c arg2 harg2 arg5 harg5 arg12 x0 x3] : Fin 16 → Vec Ideal S64x128 .f32) t (ix2 j s) = (row x0 x1 x2 x3 x4 x5 (i 1).val 0 t).X j (Fin.castLE (by omega) s) := by
  fin_cases t <;> exact (rc_x _ _ _ _ _ _ j s).trans (xP_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 _ j s _ rfl)

/-- The log-softmax of block 0. -/
theorem logq_0 (t : Fin 16) (s : Fin 128) : kernelRun0_B.sl.r_23 c i arg2 harg2 arg3 harg3 arg4 harg4 arg5 harg5 arg6 harg6 arg12 x0 x1 x2 x3 x4 (ix2 t s) = (row x0 x1 x2 x3 x4 x5 (i 1).val 0 t).logq (Fin.castLE (by omega) s) := by
  have hx := x_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hT : (row x0 x1 x2 x3 x4 x5 (i 1).val 0 t).T < 128 := by
    show 128 * 0 + 16 * (i 1).val + t.val < 128
    have := (i 1).isLt
    have e : grid0.bound 1 = 8 := rfl
    omega
  simp only [kernelRun0_B.sl.r_2, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_23, k0_pay9, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, View.readAt_eq_ld, Memref.IsWhole.read_unread]
  generalize hC : concatenate _ _ _ _ = C
  have key : ∀ x : Fin 128, C (ix2 t x) = ∑ j, (row x0 x1 x2 x3 x4 x5 (i 1).val 0 t).X j (Fin.castLE (by omega) x) * (x2 (ix4 0 0 t j) * x1 (ix4 0 0 t j)) := by
    intro x
    subst hC
    fin_cases t
    all_goals pointwise []
    all_goals simp only [Fin.zero_eta, Fin.mk_one, Fin.reduceFinMk, Matrix.cons_val] at hx
    all_goals simp only [hx, Memref.IsWhole.read_unread]
  pointwise []
  try simp only [Memref.IsWhole.read_unread]
  exact logq_of (row x0 x1 x2 x3 x4 x5 (i 1).val 0 t) (by omega) hT (fun x => C (ix2 t x) * x4 (ix3 0 0 ⟨x.val, by omega⟩))
    (fun x => congrArg (· * _) (key x)) _ (fun x => vis_word (i 1) 0 t x.val (by omega) _ rfl _ rfl) s

/-- The difference of the two distributions on block 0. -/
theorem d_0 (t : Fin 16) (s : Fin 128) : kernelRun0_B.sl.r_26 c i arg2 harg2 arg3 harg3 arg4 harg4 arg5 harg5 arg6 harg6 arg7 harg7 arg12 x0 x1 x2 x3 x4 x5 (ix2 t s) = (row x0 x1 x2 x3 x4 x5 (i 1).val 0 t).d (Fin.castLE (by omega) s) := by
  have hq := logq_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  simp only [kernelRun0_B.sl.r_22, kernelRun0_B.sl.r_24, kernelRun0_B.sl.r_26, k0_pay31, k0_pay33, k0_pay36, View.readAt_eq_ld, Memref.IsWhole.read_unread]
  pointwise []
  try simp only [Memref.IsWhole.read_unread]
  exact (congrArg (· - _) (vis_select (i 1) 0 t s.val (by omega) _ rfl _ rfl _ _)).trans (by rw [hq]; rfl)

/-- The difference on block 0, times the key scale. -/
theorem dk_0 (t : Fin 16) (s : Fin 128) : kernelRun0_B.sl.r_27 c i arg2 harg2 arg3 harg3 arg4 harg4 arg5 harg5 arg6 harg6 arg7 harg7 arg12 x0 x1 x2 x3 x4 x5 (ix2 t s) = (row x0 x1 x2 x3 x4 x5 (i 1).val 0 t).d (Fin.castLE (by omega) s) * x4 (ix3 0 0 (Fin.castLE (by omega) s)) := by
  have hd := d_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  simp only [kernelRun0_B.sl.r_2, kernelRun0_B.sl.r_22, kernelRun0_B.sl.r_24, kernelRun0_B.sl.r_26, kernelRun0_B.sl.r_27, k0_pay9, k0_pay31, k0_pay33, k0_pay36, k0_pay37, View.readAt_eq_ld, Memref.IsWhole.read_unread] at hd ⊢
  pointwise []
  refine Eq.trans ?_ (congrArg (· * _) hd)
  try simp only [Memref.IsWhole.read_unread]
  pointwise []
  try simp only [Memref.IsWhole.read_unread]
  rfl

/-- The divergences of block 0, the same in every lane. -/
theorem kl_0 (t : Fin 16) (l : Fin 128) : (k0_pay35 (kernelRun0_B.sl.r_22 i) (kernelRun0_B.sl.r_23 c i arg2 harg2 arg3 harg3 arg4 harg4 arg5 harg5 arg6 harg6 arg12 x0 x1 x2 x3 x4) (kernelRun0_B.sl.r_24 c arg7 harg7 x5) (kernelRun0_B.sl.r_25 c i arg7 harg7 x5)) (ix2 t l) = (row x0 x1 x2 x3 x4 x5 (i 1).val 0 t).kl := by
  have hq := logq_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hT : (row x0 x1 x2 x3 x4 x5 (i 1).val 0 t).T < 128 := by
    show 128 * 0 + 16 * (i 1).val + t.val < 128
    have := (i 1).isLt
    have e : grid0.bound 1 = 8 := rfl
    omega
  skip
  simp only [kernelRun0_B.sl.r_22, kernelRun0_B.sl.r_24, kernelRun0_B.sl.r_25, k0_pay31, k0_pay33, k0_pay34, k0_pay35]
  pointwise []
  refine kl_of (row x0 x1 x2 x3 x4 x5 (i 1).val 0 t) (by omega) hT _ fun s => ?_
  exact kl_term (row x0 x1 x2 x3 x4 x5 (i 1).val 0 t) (i 1) 0 t s (by omega) _ rfl _ rfl rfl _ (by simp only [View.readAt_eq_ld, Memref.IsWhole.read_unread]; pointwise []; rfl) _ (hq s)

/-- On block 0, the weights of the query gradient, as stored token by token. -/
theorem wqP_0 (t : Fin 16) (j : Fin 64) (s : Fin 128) :
    (![k0_pay41 (kernelRun0_B.sl.r_2 c arg6 harg6 x4) (kernelRun0_B.sl.r_4 c arg4 harg4 x2) (kernelRun0_B.sl.r_22 i) (kernelRun0_B.sl.r_23 c i arg2 harg2 arg3 harg3 arg4 harg4 arg5 harg5 arg6 harg6 arg12 x0 x1 x2 x3 x4) (kernelRun0_B.sl.r_24 c arg7 harg7 x5) (kernelRun0_B.sl.v26 c arg2 harg2 arg5 harg5 arg12 x0 x3), k0_pay48 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v32 c arg2 harg2 arg5 harg5 arg12 x0 x3), k0_pay54 (kernelRun0_B.sl.r_4 c arg4 harg4 x2) (kernelRun0_B.sl.v38 c arg2 harg2 arg5 harg5 arg12 x0 x3) (kernelRun0_B.sl.r_33 c i arg2 harg2 arg3 harg3 arg4 harg4 arg5 harg5 arg6 harg6 arg7 harg7 arg12 x0 x1 x2 x3 x4 x5), k0_pay59 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v44 c arg2 harg2 arg5 harg5 arg12 x0 x3), k0_pay65 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v50 c arg2 harg2 arg5 harg5 arg12 x0 x3), k0_pay71 (kernelRun0_B.sl.r_4 c arg4 harg4 x2) (kernelRun0_B.sl.v56 c arg2 harg2 arg5 harg5 arg12 x0 x3) (kernelRun0_B.sl.r_40 c i arg2 harg2 arg3 harg3 arg4 harg4 arg5 harg5 arg6 harg6 arg7 harg7 arg12 x0 x1 x2 x3 x4 x5), k0_pay77 (kernelRun0_B.sl.r_45 c i arg2 harg2 arg3 harg3 arg4 harg4 arg5 harg5 arg6 harg6 arg7 harg7 arg12 x0 x1 x2 x3 x4 x5), k0_pay82 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v68 c arg2 harg2 arg5 harg5 arg12 x0 x3), k0_pay87 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v74 c arg2 harg2 arg5 harg5 arg12 x0 x3), k0_pay93 (kernelRun0_B.sl.r_50 c i arg2 harg2 arg3 harg3 arg4 harg4 arg5 harg5 arg6 harg6 arg7 harg7 arg12 x0 x1 x2 x3 x4 x5), k0_pay98 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v86 c arg2 harg2 arg5 harg5 arg12 x0 x3), k0_pay103 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v92 c arg2 harg2 arg5 harg5 arg12 x0 x3), k0_pay110 (kernelRun0_B.sl.r_55 c arg2 harg2 arg5 harg5 arg12 x0 x3) (kernelRun0_B.sl.r_56 c i arg2 harg2 arg3 harg3 arg4 harg4 arg5 harg5 arg6 harg6 arg7 harg7 arg12 x0 x1 x2 x3 x4 x5) k0_pay109, k0_pay115 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v104 c arg2 harg2 arg5 harg5 arg12 x0 x3), k0_pay121 (kernelRun0_B.sl.r_4 c arg4 harg4 x2) (kernelRun0_B.sl.r_27 c i arg2 harg2 arg3 harg3 arg4 harg4 arg5 harg5 arg6 harg6 arg7 harg7 arg12 x0 x1 x2 x3 x4 x5) (kernelRun0_B.sl.v110 c arg2 harg2 arg5 harg5 arg12 x0 x3), k0_pay128 (kernelRun0_B.sl.r_61 c arg2 harg2 arg5 harg5 arg12 x0 x3) (kernelRun0_B.sl.r_62 c arg4 harg4 x2) (kernelRun0_B.sl.r_63 c i arg2 harg2 arg3 harg3 arg4 harg4 arg5 harg5 arg6 harg6 arg7 harg7 arg12 x0 x1 x2 x3 x4 x5)] : Fin 16 → Vec Ideal S64x128 .bf16) t (ix2 j s) = (row x0 x1 x2 x3 x4 x5 (i 1).val 0 t).wq j (Fin.castLE (by omega) s) := by
  have hx := x_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := dk_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  have hd' := hd
  simp only [kernelRun0_B.sl.r_27] at hd'
  fin_cases t
  all_goals simp only [Fin.zero_eta, Fin.mk_one, Fin.reduceFinMk, Matrix.cons_val] at hx hd hd' ⊢
  all_goals simp only [kernelRun0_B.sl.r_4, kernelRun0_B.sl.r_33, kernelRun0_B.sl.r_40, kernelRun0_B.sl.r_45, kernelRun0_B.sl.r_50, kernelRun0_B.sl.r_55, kernelRun0_B.sl.r_56, kernelRun0_B.sl.r_61, kernelRun0_B.sl.r_62, kernelRun0_B.sl.r_63, k0_pay13, k0_pay38, k0_pay40, k0_pay41, k0_pay45, k0_pay47, k0_pay48, k0_pay50, k0_pay53, k0_pay54, k0_pay56, k0_pay58, k0_pay59, k0_pay62, k0_pay64, k0_pay65, k0_pay67, k0_pay70, k0_pay71, k0_pay73, k0_pay75, k0_pay76, k0_pay77, k0_pay79, k0_pay81, k0_pay82, k0_pay84, k0_pay86, k0_pay87, k0_pay89, k0_pay91, k0_pay92, k0_pay93, k0_pay95, k0_pay97, k0_pay98, k0_pay100, k0_pay102, k0_pay103, k0_pay105, k0_pay107, k0_pay108, k0_pay109, k0_pay110, k0_pay112, k0_pay114, k0_pay115, k0_pay118, k0_pay120, k0_pay121, k0_pay123, k0_pay125, k0_pay126, k0_pay127, k0_pay128, View.readAt_eq_ld, Memref.IsWhole.read_unread]
  all_goals pointwise []
  all_goals simp only [hx, hd, hd', Memref.IsWhole.read_unread]
  all_goals rfl

/-- On block 0, the weights of the query gradient, as read back. -/
theorem wq_0 (t : Fin 16) (j : Fin 64) (s : Fin 128) (r : Fin 1024) (hr : r.val = 64 * t.val + j.val) :
    kernelRun0_B.sl.v645 c i arg2 harg2 arg3 harg3 arg4 harg4 arg5 harg5 arg6 harg6 arg7 harg7 arg12 arg13 x0 x1 x2 x3 x4 x5 (ix2 r s) = (row x0 x1 x2 x3 x4 x5 (i 1).val 0 t).wq j (Fin.castLE (by omega) s) :=
  by
  simp only [kernelRun0_B.sl.v645, kernelRun0_B.sl.HS1_16]
  exact (rc_rows' _ _ _ _ _ _ _ _ _ _ _ _ _ _ _ _ _ _ _ _ _ _ _ _ _ _ _ _ _ _ _ _ _ _ _ t j s r hr).trans (wqP_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s)

/-- On block 0, the weights of the key gradient, as stored token by token. -/
theorem wkP_0 (t : Fin 16) (j : Fin 64) (s : Fin 128) :
    (![k0_pay44 (kernelRun0_B.sl.r_29 c arg2 harg2 arg5 harg5 arg12 x0 x3) (kernelRun0_B.sl.r_30 c arg3 harg3 arg4 harg4 x1 x2) (kernelRun0_B.sl.r_31 c i arg2 harg2 arg3 harg3 arg4 harg4 arg5 harg5 arg6 harg6 arg7 harg7 arg12 x0 x1 x2 x3 x4 x5), k0_pay49 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v32 c arg2 harg2 arg5 harg5 arg12 x0 x3), k0_pay55 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v38 c arg2 harg2 arg5 harg5 arg12 x0 x3), k0_pay61 (kernelRun0_B.sl.r_26 c i arg2 harg2 arg3 harg3 arg4 harg4 arg5 harg5 arg6 harg6 arg7 harg7 arg12 x0 x1 x2 x3 x4 x5) (kernelRun0_B.sl.r_37 c arg2 harg2 arg5 harg5 arg12 x0 x3) (kernelRun0_B.sl.r_38 c arg3 harg3 arg4 harg4 x1 x2), k0_pay66 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v50 c arg2 harg2 arg5 harg5 arg12 x0 x3), k0_pay72 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v56 c arg2 harg2 arg5 harg5 arg12 x0 x3), k0_pay78 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.r_44 c arg2 harg2 arg5 harg5 arg12 x0 x3), k0_pay83 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v68 c arg2 harg2 arg5 harg5 arg12 x0 x3), k0_pay88 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v74 c arg2 harg2 arg5 harg5 arg12 x0 x3), k0_pay94 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.r_49 c arg2 harg2 arg5 harg5 arg12 x0 x3), kernelRun0_B.sl.r_52 c i arg2 harg2 arg3 harg3 arg4 harg4 arg5 harg5 arg6 harg6 arg7 harg7 arg12 x0 x1 x2 x3 x4 x5, k0_pay104 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v92 c arg2 harg2 arg5 harg5 arg12 x0 x3), k0_pay111 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.r_55 c arg2 harg2 arg5 harg5 arg12 x0 x3), k0_pay117 (kernelRun0_B.sl.r_58 c i arg2 harg2 arg3 harg3 arg4 harg4 arg5 harg5 arg6 harg6 arg7 harg7 arg12 x0 x1 x2 x3 x4 x5), k0_pay122 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.v110 c arg2 harg2 arg5 harg5 arg12 x0 x3), k0_pay129 (kernelRun0_B.sl.r_6 c arg3 harg3 arg4 harg4 x1 x2) (kernelRun0_B.sl.r_26 c i arg2 harg2 arg3 harg3 arg4 harg4 arg5 harg5 arg6 harg6 arg7 harg7 arg12 x0 x1 x2 x3 x4 x5) (kernelRun0_B.sl.r_61 c arg2 harg2 arg5 harg5 arg12 x0 x3)] : Fin 16 → Vec Ideal S64x128 .bf16) t (ix2 j s) = (row x0 x1 x2 x3 x4 x5 (i 1).val 0 t).wk j (Fin.castLE (by omega) s) := by
  have hx := x_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := d_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  have hd' := hd
  simp only [kernelRun0_B.sl.r_26] at hd'
  fin_cases t
  all_goals simp only [Fin.zero_eta, Fin.mk_one, Fin.reduceFinMk, Matrix.cons_val] at hx hd hd' ⊢
  all_goals simp only [kernelRun0_B.sl.r_6, kernelRun0_B.sl.r_29, kernelRun0_B.sl.r_30, kernelRun0_B.sl.r_31, kernelRun0_B.sl.r_37, kernelRun0_B.sl.r_38, kernelRun0_B.sl.r_44, kernelRun0_B.sl.r_49, kernelRun0_B.sl.r_52, kernelRun0_B.sl.r_55, kernelRun0_B.sl.r_58, kernelRun0_B.sl.r_61, k0_pay13, k0_pay14, k0_pay15, k0_pay40, k0_pay42, k0_pay43, k0_pay44, k0_pay47, k0_pay49, k0_pay53, k0_pay55, k0_pay58, k0_pay60, k0_pay61, k0_pay64, k0_pay66, k0_pay70, k0_pay72, k0_pay75, k0_pay78, k0_pay81, k0_pay83, k0_pay86, k0_pay88, k0_pay91, k0_pay94, k0_pay97, k0_pay99, k0_pay102, k0_pay104, k0_pay107, k0_pay111, k0_pay114, k0_pay116, k0_pay117, k0_pay120, k0_pay122, k0_pay125, k0_pay129, View.readAt_eq_ld, Memref.IsWhole.read_unread]
  all_goals pointwise []
  all_goals simp only [hx, hd, hd', Memref.IsWhole.read_unread]
  all_goals rfl

/-- On block 0, the weights of the key gradient, as read back. -/
theorem wk_0 (t : Fin 16) (j : Fin 64) (s : Fin 128) (r : Fin 1024) (hr : r.val = 64 * t.val + j.val) :
    kernelRun0_B.sl.v654 c i arg2 harg2 arg3 harg3 arg4 harg4 arg5 harg5 arg6 harg6 arg7 harg7 arg12 arg14 x0 x1 x2 x3 x4 x5 (ix2 r s) = (row x0 x1 x2 x3 x4 x5 (i 1).val 0 t).wk j (Fin.castLE (by omega) s) :=
  by
  simp only [kernelRun0_B.sl.v654, kernelRun0_B.sl.HS2_16]
  exact (rc_rows' _ _ _ _ _ _ _ _ _ _ _ _ _ _ _ _ _ _ _ _ _ _ _ _ _ _ _ _ _ _ _ _ _ _ _ t j s r hr).trans (wkP_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s)

/-- The gradient of the query vectors of block 0. -/
theorem dq_0 (t : Fin 16) (j : Fin 64) (k : Fin 128) : (k0_pay131 (kernelRun0_B.sl.r_1 c arg5 harg5 x3) (kernelRun0_B.sl.v645 c i arg2 harg2 arg3 harg3 arg4 harg4 arg5 harg5 arg6 harg6 arg7 harg7 arg12 arg13 x0 x1 x2 x3 x4 x5)) (ix5 0 0 t j k) = (row x0 x1 x2 x3 x4 x5 (i 1).val 0 t).dq 128 j k := by
  have hw := wq_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  simp only [kernelRun0_B.sl.r_1, k0_pay7, k0_pay8, k0_pay131, View.readAt_eq_ld, Memref.IsWhole.read_unread]
  pointwise []
  refine (Finset.sum_congr rfl fun s _ => ?_).trans (sum_castLE (n := 128) (by omega) (fun s => (row x0 x1 x2 x3 x4 x5 (i 1).val 0 t).wq j s * (row x0 x1 x2 x3 x4 x5 (i 1).val 0 t).k s k))
  refine congrArg₂ (· * ·) (hw s _ ?_) ?_
  · simp only []
    omega
  · first | rfl | (simp only [Memref.IsWhole.read_unread]; rfl)

/-- The gradient of the head weights of block 0. -/
theorem dw_0 (t : Fin 16) (j : Fin 64) : (k0_pay130 (kernelRun0_B.sl.r_5 c arg3 harg3 x1) (kernelRun0_B.sl.r_28 c i arg2 harg2 arg3 harg3 arg4 harg4 arg5 harg5 arg6 harg6 arg7 harg7 arg12 x0 x1 x2 x3 x4 x5) (kernelRun0_B.sl.r_32 c i arg2 harg2 arg3 harg3 arg4 harg4 arg5 harg5 arg6 harg6 arg7 harg7 arg12 x0 x1 x2 x3 x4 x5) (kernelRun0_B.sl.r_35 c i arg2 harg2 arg3 harg3 arg4 harg4 arg5 harg5 arg6 harg6 arg7 harg7 arg12 x0 x1 x2 x3 x4 x5) (kernelRun0_B.sl.r_36 c i arg2 harg2 arg3 harg3 arg4 harg4 arg5 harg5 arg6 harg6 arg7 harg7 arg12 x0 x1 x2 x3 x4 x5) (kernelRun0_B.sl.r_39 c i arg2 harg2 arg3 harg3 arg4 harg4 arg5 harg5 arg6 harg6 arg7 harg7 arg12 x0 x1 x2 x3 x4 x5) (kernelRun0_B.sl.r_42 c i arg2 harg2 arg3 harg3 arg4 harg4 arg5 harg5 arg6 harg6 arg7 harg7 arg12 x0 x1 x2 x3 x4 x5) (kernelRun0_B.sl.r_43 c i arg2 harg2 arg3 harg3 arg4 harg4 arg5 harg5 arg6 harg6 arg7 harg7 arg12 x0 x1 x2 x3 x4 x5) (kernelRun0_B.sl.r_46 c i arg2 harg2 arg3 harg3 arg4 harg4 arg5 harg5 arg6 harg6 arg7 harg7 arg12 x0 x1 x2 x3 x4 x5) (kernelRun0_B.sl.r_47 c i arg2 harg2 arg3 harg3 arg4 harg4 arg5 harg5 arg6 harg6 arg7 harg7 arg12 x0 x1 x2 x3 x4 x5) (kernelRun0_B.sl.r_48 c i arg2 harg2 arg3 harg3 arg4 harg4 arg5 harg5 arg6 harg6 arg7 harg7 arg12 x0 x1 x2 x3 x4 x5) (kernelRun0_B.sl.r_51 c i arg2 harg2 arg3 harg3 arg4 harg4 arg5 harg5 arg6 harg6 arg7 harg7 arg12 x0 x1 x2 x3 x4 x5) (kernelRun0_B.sl.r_53 c i arg2 harg2 arg3 harg3 arg4 harg4 arg5 harg5 arg6 harg6 arg7 harg7 arg12 x0 x1 x2 x3 x4 x5) (kernelRun0_B.sl.r_54 c i arg2 harg2 arg3 harg3 arg4 harg4 arg5 harg5 arg6 harg6 arg7 harg7 arg12 x0 x1 x2 x3 x4 x5) (kernelRun0_B.sl.r_57 c i arg2 harg2 arg3 harg3 arg4 harg4 arg5 harg5 arg6 harg6 arg7 harg7 arg12 x0 x1 x2 x3 x4 x5) (kernelRun0_B.sl.r_59 c i arg2 harg2 arg3 harg3 arg4 harg4 arg5 harg5 arg6 harg6 arg7 harg7 arg12 x0 x1 x2 x3 x4 x5) (kernelRun0_B.sl.r_60 c i arg2 harg2 arg3 harg3 arg4 harg4 arg5 harg5 arg6 harg6 arg7 harg7 arg12 x0 x1 x2 x3 x4 x5)) (ix4 0 0 t j) = (row x0 x1 x2 x3 x4 x5 (i 1).val 0 t).dw 128 j := by
  have hx := x_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := dk_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hd' := hd
  simp only [kernelRun0_B.sl.r_27] at hd'
  simp only [kernelRun0_B.sl.r_5, kernelRun0_B.sl.r_28, kernelRun0_B.sl.r_32, kernelRun0_B.sl.r_34, kernelRun0_B.sl.r_35, kernelRun0_B.sl.r_36, kernelRun0_B.sl.r_39, kernelRun0_B.sl.r_41, kernelRun0_B.sl.r_42, kernelRun0_B.sl.r_43, kernelRun0_B.sl.r_46, kernelRun0_B.sl.r_47, kernelRun0_B.sl.r_48, kernelRun0_B.sl.r_51, kernelRun0_B.sl.r_53, kernelRun0_B.sl.r_54, kernelRun0_B.sl.r_57, kernelRun0_B.sl.r_59, kernelRun0_B.sl.r_60, k0_pay14, k0_pay38, k0_pay39, k0_pay45, k0_pay46, k0_pay50, k0_pay51, k0_pay52, k0_pay56, k0_pay57, k0_pay62, k0_pay63, k0_pay67, k0_pay68, k0_pay69, k0_pay73, k0_pay74, k0_pay79, k0_pay80, k0_pay84, k0_pay85, k0_pay89, k0_pay90, k0_pay95, k0_pay96, k0_pay100, k0_pay101, k0_pay105, k0_pay106, k0_pay112, k0_pay113, k0_pay118, k0_pay119, k0_pay123, k0_pay124, k0_pay130, View.readAt_eq_ld, Memref.IsWhole.read_unread]
  generalize hC : concatenate _ _ _ _ = C
  have key : C (ix2 j t) = ∑ s : Fin 128, (row x0 x1 x2 x3 x4 x5 (i 1).val 0 t).X j (Fin.castLE (by omega) s) * ((row x0 x1 x2 x3 x4 x5 (i 1).val 0 t).d (Fin.castLE (by omega) s) * x4 (ix3 0 0 (Fin.castLE (by omega) s))) := by
    subst hC
    fin_cases t
    all_goals pointwise []
    all_goals simp only [Fin.zero_eta, Fin.mk_one, Fin.reduceFinMk, Matrix.cons_val] at hx hd hd'
    all_goals simp only [hx, hd, hd', Memref.IsWhole.read_unread]
  pointwise []
  rw [key]
  refine congrArg₂ (· * ·) (sum_castLE (n := 128) (by omega) (fun s => (row x0 x1 x2 x3 x4 x5 (i 1).val 0 t).X j s * ((row x0 x1 x2 x3 x4 x5 (i 1).val 0 t).d s * (row x0 x1 x2 x3 x4 x5 (i 1).val 0 t).ks s))) ?_
  first | rfl | (simp only [Memref.IsWhole.read_unread]; rfl)

/-- The gradient of the keys of block 0, added to what the accumulator held. -/
theorem dkk_0 (OLD : Vec Ideal S128x128 .f32) (k : Fin 128) (s : Fin 128) :
    (k0_pay133 OLD (kernelRun0_B.sl.r_65 c arg2 harg2 x0) (kernelRun0_B.sl.v654 c i arg2 harg2 arg3 harg3 arg4 harg4 arg5 harg5 arg6 harg6 arg7 harg7 arg12 arg14 x0 x1 x2 x3 x4 x5)) (ix2 k s) = OLD (ix2 k s) + ∑ t : Fin 16, (row x0 x1 x2 x3 x4 x5 (i 1).val 0 t).dk (Fin.castLE (by omega) s) k := by
  have hw := fun t j => wk_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s
  simp only [kernelRun0_B.sl.r_3, kernelRun0_B.sl.r_65, k0_pay11, k0_pay132, k0_pay133, View.readAt_eq_ld, Memref.IsWhole.read_unread]
  pointwise []
  refine congrArg (_ + ·) ((sum_rows _).trans (Finset.sum_congr rfl fun t _ => Finset.sum_congr rfl fun j _ => ?_))
  have h1 : (64 * t.val + j.val) / 64 = t.val := by omega
  have h2 : (64 * t.val + j.val) % 64 = j.val := by omega
  simp only [hw t j ⟨64 * t.val + j.val, by omega⟩ rfl, h1, h2]
  first | rfl | (simp only [Memref.IsWhole.read_unread]; rfl)

end Cert.KernelIdeal.Hand
-- ==== Proof.Val.Blk1.lean ====
/- BLOCK 1 of the query tokens: what the kernel's words hold, entry by entry, in terms of the rows of `Row.lean`. -/
module

public import proofs.«01_k».proof.Proof.Val.Base

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole)
variable (x0 : Vec Ideal S1x3x16x64x128 .fp8e4m3) (x1 : Vec Ideal S1x3x16x64 .f32) (x2 : Vec Ideal S1x3x16x64 .bf16) (x3 : Vec Ideal S1x384x128 .fp8e4m3) (x4 : Vec Ideal S1x1x384 .f32) (x5 : Vec Ideal S1x3x16x384 .f32) (xs4 : Vec Ideal S128x384 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4

/-- The scores of block 1, as stored: row `64 t + j` is head `j` of token `t`. -/
theorem xP_1 (t : Fin 16) (j : Fin 64) (s : Fin 256) (r : Fin 1024) (hr : r.val = 64 * t.val + j.val) :
    (k0_pay135 (kernelRun0_B.sl.r c arg5 harg5 x3) (View.readAt (Elt Ideal) arg2.view (Rect.unit (s := S1x3x16x64x128) ![0, 1, 0, 0, 0] S1x1x16x64x128.size inb_S1x3x16x64x128_S1x1x16x64x128_0_1_0_0_0).toLoadRect (harg2.unread x0))) (ix2 r s) = (row x0 x1 x2 x3 x4 x5 (i 1).val 1 t).X j (Fin.castLE (by omega) s) := by
  have h1 : r.val / 64 = t.val := by omega
  have h2 : r.val % 64 = j.val := by omega
  simp only [kernelRun0_B.sl.r, k0_pay7, k0_pay134, k0_pay135, View.readAt_eq_ld, Memref.IsWhole.read_unread]
  pointwise []
  simp only [h1, h2]
  rfl

/-- The scores of block 1, as the loads of a token read them. -/
theorem x_1 (t : Fin 16) (j : Fin 64) (s : Fin 256) :
    (![kernelRun0_B.sl.v678 c arg2 harg2 arg5 harg5 arg12 x0 x3, kernelRun0_B.sl.v684 c arg2 harg2 arg5 harg5 arg12 x0 x3, kernelRun0_B.sl.v690 c arg2 harg2 arg5 harg5 arg12 x0 x3, kernelRun0_B.sl.v696 c arg2 harg2 arg5 harg5 arg12 x0 x3, kernelRun0_B.sl.v702 c arg2 harg2 arg5 harg5 arg12 x0 x3, kernelRun0_B.sl.v708 c arg2 harg2 arg5 harg5 arg12 x0 x3, kernelRun0_B.sl.v714 c arg2 harg2 arg5 harg5 arg12 x0 x3, kernelRun0_B.sl.v720 c arg2 harg2 arg5 harg5 arg12 x0 x3, kernelRun0_B.sl.v726 c arg2 harg2 arg5 harg5 arg12 x0 x3, kernelRun0_B.sl.v732 c arg2 harg2 arg5 harg5 arg12 x0 x3, kernelRun0_B.sl.v738 c arg2 harg2 arg5 harg5 arg12 x0 x3, kernelRun0_B.sl.v744 c arg2 harg2 arg5 harg5 arg12 x0 x3, kernelRun0_B.sl.v750 c arg2 harg2 arg5 harg5 arg12 x0 x3, kernelRun0_B.sl.v756 c arg2 harg2 arg5 harg5 arg12 x0 x3, kernelRun0_B.sl.v762 c arg2 harg2 arg5 harg5 arg12 x0 x3, kernelRun0_B.sl.v768 c arg2 harg2 arg5 harg5 arg12 x0 x3] : Fin 16 → Vec Ideal S64x256 .f32) t (ix2 j s) = (row x0 x1 x2 x3 x4 x5 (i 1).val 1 t).X j (Fin.castLE (by omega) s) := by
  fin_cases t <;> exact (rc_x _ _ _ _ _ _ j s).trans (xP_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 _ j s _ rfl)

/-- The log-softmax of block 1. -/
theorem logq_1 (t : Fin 16) (s : Fin 256) : kernelRun0_B.sl.r_87 c i arg2 harg2 arg3 harg3 arg4 harg4 arg5 harg5 arg6 harg6 arg12 x0 x1 x2 x3 x4 (ix2 t s) = (row x0 x1 x2 x3 x4 x5 (i 1).val 1 t).logq (Fin.castLE (by omega) s) := by
  have hx := x_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hT : (row x0 x1 x2 x3 x4 x5 (i 1).val 1 t).T < 256 := by
    show 128 * 1 + 16 * (i 1).val + t.val < 256
    have := (i 1).isLt
    have e : grid0.bound 1 = 8 := rfl
    omega
  simp only [kernelRun0_B.sl.r_2, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_87, k0_pay9, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, View.readAt_eq_ld, Memref.IsWhole.read_unread]
  generalize hC : concatenate _ _ _ _ = C
  have key : ∀ x : Fin 256, C (ix2 t x) = ∑ j, (row x0 x1 x2 x3 x4 x5 (i 1).val 1 t).X j (Fin.castLE (by omega) x) * (x2 (ix4 0 1 t j) * x1 (ix4 0 1 t j)) := by
    intro x
    subst hC
    fin_cases t
    all_goals pointwise []
    all_goals simp only [Fin.zero_eta, Fin.mk_one, Fin.reduceFinMk, Matrix.cons_val] at hx
    all_goals simp only [hx, Memref.IsWhole.read_unread]
  pointwise []
  try simp only [Memref.IsWhole.read_unread]
  exact logq_of (row x0 x1 x2 x3 x4 x5 (i 1).val 1 t) (by omega) hT (fun x => C (ix2 t x) * x4 (ix3 0 0 ⟨x.val, by omega⟩))
    (fun x => congrArg (· * _) (key x)) _ (fun x => vis_word (i 1) 1 t x.val (by omega) _ rfl _ rfl) s

/-- The difference of the two distributions on block 1. -/
theorem d_1 (t : Fin 16) (s : Fin 256) : kernelRun0_B.sl.r_90 c i arg2 harg2 arg3 harg3 arg4 harg4 arg5 harg5 arg6 harg6 arg7 harg7 arg12 x0 x1 x2 x3 x4 x5 (ix2 t s) = (row x0 x1 x2 x3 x4 x5 (i 1).val 1 t).d (Fin.castLE (by omega) s) := by
  have hq := logq_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  simp only [kernelRun0_B.sl.r_86, kernelRun0_B.sl.r_88, kernelRun0_B.sl.r_90, k0_pay155, k0_pay157, k0_pay160, View.readAt_eq_ld, Memref.IsWhole.read_unread]
  pointwise []
  try simp only [Memref.IsWhole.read_unread]
  exact (congrArg (· - _) (vis_select (i 1) 1 t s.val (by omega) _ rfl _ rfl _ _)).trans (by rw [hq]; rfl)

/-- The difference on block 1, times the key scale. -/
theorem dk_1 (t : Fin 16) (s : Fin 256) : kernelRun0_B.sl.r_91 c i arg2 harg2 arg3 harg3 arg4 harg4 arg5 harg5 arg6 harg6 arg7 harg7 arg12 x0 x1 x2 x3 x4 x5 (ix2 t s) = (row x0 x1 x2 x3 x4 x5 (i 1).val 1 t).d (Fin.castLE (by omega) s) * x4 (ix3 0 0 (Fin.castLE (by omega) s)) := by
  have hd := d_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  simp only [kernelRun0_B.sl.r_2, kernelRun0_B.sl.r_86, kernelRun0_B.sl.r_88, kernelRun0_B.sl.r_90, kernelRun0_B.sl.r_91, k0_pay9, k0_pay155, k0_pay157, k0_pay160, k0_pay161, View.readAt_eq_ld, Memref.IsWhole.read_unread] at hd ⊢
  pointwise []
  refine Eq.trans ?_ (congrArg (· * _) hd)
  try simp only [Memref.IsWhole.read_unread]
  pointwise []
  try simp only [Memref.IsWhole.read_unread]
  rfl

/-- The divergences of block 1, the same in every lane. -/
theorem kl_1 (t : Fin 16) (l : Fin 128) : (k0_pay159 (kernelRun0_B.sl.r_89 c i arg2 harg2 arg3 harg3 arg4 harg4 arg5 harg5 arg6 harg6 arg7 harg7 arg12 x0 x1 x2 x3 x4 x5)) (ix2 t l) = (row x0 x1 x2 x3 x4 x5 (i 1).val 1 t).kl := by
  have hq := logq_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hT : (row x0 x1 x2 x3 x4 x5 (i 1).val 1 t).T < 256 := by
    show 128 * 1 + 16 * (i 1).val + t.val < 256
    have := (i 1).isLt
    have e : grid0.bound 1 = 8 := rfl
    omega
  simp only [kernelRun0_B.sl.r_87] at hq
  simp only [kernelRun0_B.sl.r_89, k0_pay155, k0_pay157, k0_pay158, k0_pay159]
  pointwise []
  refine kl_of (row x0 x1 x2 x3 x4 x5 (i 1).val 1 t) (by omega) hT _ fun s => ?_
  exact kl_term (row x0 x1 x2 x3 x4 x5 (i 1).val 1 t) (i 1) 1 t s (by omega) _ rfl _ rfl rfl _ (by simp only [View.readAt_eq_ld, Memref.IsWhole.read_unread]; pointwise []; rfl) _ (hq s)

/-- On block 1, the weights of the query gradient, as stored token by token. -/
theorem wqP_1 (t : Fin 16) (j : Fin 64) (s : Fin 256) :
    (![k0_pay165 (kernelRun0_B.sl.r_2 c arg6 harg6 x4) (kernelRun0_B.sl.r_67 c arg4 harg4 x2) (kernelRun0_B.sl.r_86 i) (kernelRun0_B.sl.r_87 c i arg2 harg2 arg3 harg3 arg4 harg4 arg5 harg5 arg6 harg6 arg12 x0 x1 x2 x3 x4) (kernelRun0_B.sl.r_88 c arg7 harg7 x5) (kernelRun0_B.sl.v678 c arg2 harg2 arg5 harg5 arg12 x0 x3), k0_pay170 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v684 c arg2 harg2 arg5 harg5 arg12 x0 x3), k0_pay177 (kernelRun0_B.sl.r_96 c arg2 harg2 arg5 harg5 arg12 x0 x3) (kernelRun0_B.sl.r_97 c i arg2 harg2 arg3 harg3 arg4 harg4 arg5 harg5 arg6 harg6 arg7 harg7 arg12 x0 x1 x2 x3 x4 x5) k0_pay176, k0_pay182 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v696 c arg2 harg2 arg5 harg5 arg12 x0 x3), k0_pay188 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v702 c arg2 harg2 arg5 harg5 arg12 x0 x3), k0_pay195 (kernelRun0_B.sl.r_102 c arg2 harg2 arg5 harg5 arg12 x0 x3) (kernelRun0_B.sl.r_103 c arg4 harg4 x2) (kernelRun0_B.sl.r_104 c i arg2 harg2 arg3 harg3 arg4 harg4 arg5 harg5 arg6 harg6 arg7 harg7 arg12 x0 x1 x2 x3 x4 x5), k0_pay200 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v714 c arg2 harg2 arg5 harg5 arg12 x0 x3), k0_pay206 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v720 c arg2 harg2 arg5 harg5 arg12 x0 x3), k0_pay211 (kernelRun0_B.sl.r_67 c arg4 harg4 x2) (kernelRun0_B.sl.r_108 c i arg2 harg2 arg3 harg3 arg4 harg4 arg5 harg5 arg6 harg6 arg7 harg7 arg12 x0 x1 x2 x3 x4 x5) (kernelRun0_B.sl.r_110 c arg2 harg2 arg5 harg5 arg12 x0 x3), k0_pay216 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v732 c arg2 harg2 arg5 harg5 arg12 x0 x3), k0_pay222 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v738 c arg2 harg2 arg5 harg5 arg12 x0 x3), k0_pay227 (kernelRun0_B.sl.r_67 c arg4 harg4 x2) (kernelRun0_B.sl.v744 c arg2 harg2 arg5 harg5 arg12 x0 x3) (kernelRun0_B.sl.r_115 c i arg2 harg2 arg3 harg3 arg4 harg4 arg5 harg5 arg6 harg6 arg7 harg7 arg12 x0 x1 x2 x3 x4 x5), k0_pay232 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v750 c arg2 harg2 arg5 harg5 arg12 x0 x3), k0_pay239 (kernelRun0_B.sl.r_67 c arg4 harg4 x2) (kernelRun0_B.sl.r_91 c i arg2 harg2 arg3 harg3 arg4 harg4 arg5 harg5 arg6 harg6 arg7 harg7 arg12 x0 x1 x2 x3 x4 x5) (kernelRun0_B.sl.v756 c arg2 harg2 arg5 harg5 arg12 x0 x3), k0_pay245 (kernelRun0_B.sl.r_67 c arg4 harg4 x2) (kernelRun0_B.sl.v762 c arg2 harg2 arg5 harg5 arg12 x0 x3) (kernelRun0_B.sl.r_122 c i arg2 harg2 arg3 harg3 arg4 harg4 arg5 harg5 arg6 harg6 arg7 harg7 arg12 x0 x1 x2 x3 x4 x5), kernelRun0_B.sl.r_127 c i arg2 harg2 arg3 harg3 arg4 harg4 arg5 harg5 arg6 harg6 arg7 harg7 arg12 x0 x1 x2 x3 x4 x5] : Fin 16 → Vec Ideal S64x256 .bf16) t (ix2 j s) = (row x0 x1 x2 x3 x4 x5 (i 1).val 1 t).wq j (Fin.castLE (by omega) s) := by
  have hx := x_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := dk_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  have hd' := hd
  simp only [kernelRun0_B.sl.r_91] at hd'
  fin_cases t
  all_goals simp only [Fin.zero_eta, Fin.mk_one, Fin.reduceFinMk, Matrix.cons_val] at hx hd hd' ⊢
  all_goals simp only [kernelRun0_B.sl.r_67, kernelRun0_B.sl.r_96, kernelRun0_B.sl.r_97, kernelRun0_B.sl.r_102, kernelRun0_B.sl.r_103, kernelRun0_B.sl.r_104, kernelRun0_B.sl.r_108, kernelRun0_B.sl.r_110, kernelRun0_B.sl.r_115, kernelRun0_B.sl.r_122, kernelRun0_B.sl.r_127, k0_pay136, k0_pay162, k0_pay164, k0_pay165, k0_pay167, k0_pay169, k0_pay170, k0_pay172, k0_pay174, k0_pay175, k0_pay176, k0_pay177, k0_pay179, k0_pay181, k0_pay182, k0_pay185, k0_pay187, k0_pay188, k0_pay190, k0_pay192, k0_pay193, k0_pay194, k0_pay195, k0_pay197, k0_pay199, k0_pay200, k0_pay203, k0_pay205, k0_pay206, k0_pay208, k0_pay210, k0_pay211, k0_pay213, k0_pay215, k0_pay216, k0_pay219, k0_pay221, k0_pay222, k0_pay224, k0_pay226, k0_pay227, k0_pay229, k0_pay231, k0_pay232, k0_pay236, k0_pay238, k0_pay239, k0_pay241, k0_pay244, k0_pay245, k0_pay247, k0_pay249, k0_pay250, View.readAt_eq_ld, Memref.IsWhole.read_unread]
  all_goals pointwise []
  all_goals simp only [hx, hd, hd', Memref.IsWhole.read_unread]
  all_goals rfl

/-- On block 1, the weights of the query gradient, as read back. -/
theorem wq_1 (t : Fin 16) (j : Fin 64) (s : Fin 256) (r : Fin 1024) (hr : r.val = 64 * t.val + j.val) :
    kernelRun0_B.sl.v1297 c i arg2 harg2 arg3 harg3 arg4 harg4 arg5 harg5 arg6 harg6 arg7 harg7 arg12 arg13 x0 x1 x2 x3 x4 x5 (ix2 r s) = (row x0 x1 x2 x3 x4 x5 (i 1).val 1 t).wq j (Fin.castLE (by omega) s) :=
  by
  simp only [kernelRun0_B.sl.v1297, kernelRun0_B.sl.HS1_32]
  exact (rc_rows' _ _ _ _ _ _ _ _ _ _ _ _ _ _ _ _ _ _ _ _ _ _ _ _ _ _ _ _ _ _ _ _ _ _ _ t j s r hr).trans (wqP_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s)

/-- On block 1, the weights of the key gradient, as stored token by token. -/
theorem wkP_1 (t : Fin 16) (j : Fin 64) (s : Fin 256) :
    (![kernelRun0_B.sl.r_93 c i arg2 harg2 arg3 harg3 arg4 harg4 arg5 harg5 arg6 harg6 arg7 harg7 arg12 x0 x1 x2 x3 x4 x5, k0_pay171 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.v684 c arg2 harg2 arg5 harg5 arg12 x0 x3), k0_pay178 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.r_96 c arg2 harg2 arg5 harg5 arg12 x0 x3), k0_pay184 (kernelRun0_B.sl.r_99 c i arg2 harg2 arg3 harg3 arg4 harg4 arg5 harg5 arg6 harg6 arg7 harg7 arg12 x0 x1 x2 x3 x4 x5), k0_pay189 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.v702 c arg2 harg2 arg5 harg5 arg12 x0 x3), k0_pay196 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.r_102 c arg2 harg2 arg5 harg5 arg12 x0 x3), k0_pay202 (kernelRun0_B.sl.r_106 c i arg2 harg2 arg3 harg3 arg4 harg4 arg5 harg5 arg6 harg6 arg7 harg7 arg12 x0 x1 x2 x3 x4 x5), k0_pay207 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.v720 c arg2 harg2 arg5 harg5 arg12 x0 x3), k0_pay212 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.r_110 c arg2 harg2 arg5 harg5 arg12 x0 x3), k0_pay218 (kernelRun0_B.sl.r_112 c arg2 harg2 arg5 harg5 arg12 x0 x3) (kernelRun0_B.sl.r_113 c i arg2 harg2 arg3 harg3 arg4 harg4 arg5 harg5 arg6 harg6 arg7 harg7 arg12 x0 x1 x2 x3 x4 x5), k0_pay223 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.v738 c arg2 harg2 arg5 harg5 arg12 x0 x3), k0_pay228 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.v744 c arg2 harg2 arg5 harg5 arg12 x0 x3), k0_pay235 (kernelRun0_B.sl.r_118 c arg2 harg2 arg5 harg5 arg12 x0 x3) (kernelRun0_B.sl.r_119 c arg3 harg3 arg4 harg4 x1 x2) (kernelRun0_B.sl.r_120 c i arg2 harg2 arg3 harg3 arg4 harg4 arg5 harg5 arg6 harg6 arg7 harg7 arg12 x0 x1 x2 x3 x4 x5), k0_pay240 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.v756 c arg2 harg2 arg5 harg5 arg12 x0 x3), k0_pay246 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.v762 c arg2 harg2 arg5 harg5 arg12 x0 x3), k0_pay251 (kernelRun0_B.sl.r_69 c arg3 harg3 arg4 harg4 x1 x2) (kernelRun0_B.sl.r_90 c i arg2 harg2 arg3 harg3 arg4 harg4 arg5 harg5 arg6 harg6 arg7 harg7 arg12 x0 x1 x2 x3 x4 x5) (kernelRun0_B.sl.r_126 c arg2 harg2 arg5 harg5 arg12 x0 x3)] : Fin 16 → Vec Ideal S64x256 .bf16) t (ix2 j s) = (row x0 x1 x2 x3 x4 x5 (i 1).val 1 t).wk j (Fin.castLE (by omega) s) := by
  have hx := x_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := d_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  have hd' := hd
  simp only [kernelRun0_B.sl.r_90] at hd'
  fin_cases t
  all_goals simp only [Fin.zero_eta, Fin.mk_one, Fin.reduceFinMk, Matrix.cons_val] at hx hd hd' ⊢
  all_goals simp only [kernelRun0_B.sl.r_69, kernelRun0_B.sl.r_93, kernelRun0_B.sl.r_96, kernelRun0_B.sl.r_99, kernelRun0_B.sl.r_102, kernelRun0_B.sl.r_106, kernelRun0_B.sl.r_110, kernelRun0_B.sl.r_112, kernelRun0_B.sl.r_113, kernelRun0_B.sl.r_118, kernelRun0_B.sl.r_119, kernelRun0_B.sl.r_120, kernelRun0_B.sl.r_126, k0_pay136, k0_pay137, k0_pay138, k0_pay164, k0_pay166, k0_pay169, k0_pay171, k0_pay174, k0_pay178, k0_pay181, k0_pay183, k0_pay184, k0_pay187, k0_pay189, k0_pay192, k0_pay196, k0_pay199, k0_pay201, k0_pay202, k0_pay205, k0_pay207, k0_pay210, k0_pay212, k0_pay215, k0_pay217, k0_pay218, k0_pay221, k0_pay223, k0_pay226, k0_pay228, k0_pay231, k0_pay233, k0_pay234, k0_pay235, k0_pay238, k0_pay240, k0_pay244, k0_pay246, k0_pay249, k0_pay251, View.readAt_eq_ld, Memref.IsWhole.read_unread]
  all_goals pointwise []
  all_goals simp only [hx, hd, hd', Memref.IsWhole.read_unread]
  all_goals rfl

/-- On block 1, the weights of the key gradient, as read back. -/
theorem wk_1 (t : Fin 16) (j : Fin 64) (s : Fin 256) (r : Fin 1024) (hr : r.val = 64 * t.val + j.val) :
    kernelRun0_B.sl.v1306 c i arg2 harg2 arg3 harg3 arg4 harg4 arg5 harg5 arg6 harg6 arg7 harg7 arg12 arg14 x0 x1 x2 x3 x4 x5 (ix2 r s) = (row x0 x1 x2 x3 x4 x5 (i 1).val 1 t).wk j (Fin.castLE (by omega) s) :=
  by
  simp only [kernelRun0_B.sl.v1306, kernelRun0_B.sl.HS2_32]
  exact (rc_rows' _ _ _ _ _ _ _ _ _ _ _ _ _ _ _ _ _ _ _ _ _ _ _ _ _ _ _ _ _ _ _ _ _ _ _ t j s r hr).trans (wkP_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s)

/-- The gradient of the query vectors of block 1. -/
theorem dq_1 (t : Fin 16) (j : Fin 64) (k : Fin 128) : (k0_pay253 (kernelRun0_B.sl.r_1 c arg5 harg5 x3) (kernelRun0_B.sl.v1297 c i arg2 harg2 arg3 harg3 arg4 harg4 arg5 harg5 arg6 harg6 arg7 harg7 arg12 arg13 x0 x1 x2 x3 x4 x5)) (ix5 0 0 t j k) = (row x0 x1 x2 x3 x4 x5 (i 1).val 1 t).dq 256 j k := by
  have hw := wq_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  simp only [kernelRun0_B.sl.r_1, k0_pay7, k0_pay8, k0_pay253, View.readAt_eq_ld, Memref.IsWhole.read_unread]
  pointwise []
  refine (Finset.sum_congr rfl fun s _ => ?_).trans (sum_castLE (n := 256) (by omega) (fun s => (row x0 x1 x2 x3 x4 x5 (i 1).val 1 t).wq j s * (row x0 x1 x2 x3 x4 x5 (i 1).val 1 t).k s k))
  refine congrArg₂ (· * ·) (hw s _ ?_) ?_
  · simp only []
    omega
  · first | rfl | (simp only [Memref.IsWhole.read_unread]; rfl)

/-- The gradient of the head weights of block 1. -/
theorem dw_1 (t : Fin 16) (j : Fin 64) : (k0_pay252 (kernelRun0_B.sl.r_68 c arg3 harg3 x1) (kernelRun0_B.sl.r_92 c i arg2 harg2 arg3 harg3 arg4 harg4 arg5 harg5 arg6 harg6 arg7 harg7 arg12 x0 x1 x2 x3 x4 x5) (kernelRun0_B.sl.r_94 c i arg2 harg2 arg3 harg3 arg4 harg4 arg5 harg5 arg6 harg6 arg7 harg7 arg12 x0 x1 x2 x3 x4 x5) (kernelRun0_B.sl.r_95 c i arg2 harg2 arg3 harg3 arg4 harg4 arg5 harg5 arg6 harg6 arg7 harg7 arg12 x0 x1 x2 x3 x4 x5) (kernelRun0_B.sl.r_98 c i arg2 harg2 arg3 harg3 arg4 harg4 arg5 harg5 arg6 harg6 arg7 harg7 arg12 x0 x1 x2 x3 x4 x5) (kernelRun0_B.sl.r_100 c i arg2 harg2 arg3 harg3 arg4 harg4 arg5 harg5 arg6 harg6 arg7 harg7 arg12 x0 x1 x2 x3 x4 x5) (kernelRun0_B.sl.r_101 c i arg2 harg2 arg3 harg3 arg4 harg4 arg5 harg5 arg6 harg6 arg7 harg7 arg12 x0 x1 x2 x3 x4 x5) (kernelRun0_B.sl.r_105 c i arg2 harg2 arg3 harg3 arg4 harg4 arg5 harg5 arg6 harg6 arg7 harg7 arg12 x0 x1 x2 x3 x4 x5) (kernelRun0_B.sl.r_107 c i arg2 harg2 arg3 harg3 arg4 harg4 arg5 harg5 arg6 harg6 arg7 harg7 arg12 x0 x1 x2 x3 x4 x5) (kernelRun0_B.sl.r_109 c i arg2 harg2 arg3 harg3 arg4 harg4 arg5 harg5 arg6 harg6 arg7 harg7 arg12 x0 x1 x2 x3 x4 x5) (kernelRun0_B.sl.r_111 c i arg2 harg2 arg3 harg3 arg4 harg4 arg5 harg5 arg6 harg6 arg7 harg7 arg12 x0 x1 x2 x3 x4 x5) (kernelRun0_B.sl.r_114 c i arg2 harg2 arg3 harg3 arg4 harg4 arg5 harg5 arg6 harg6 arg7 harg7 arg12 x0 x1 x2 x3 x4 x5) (kernelRun0_B.sl.r_116 c i arg2 harg2 arg3 harg3 arg4 harg4 arg5 harg5 arg6 harg6 arg7 harg7 arg12 x0 x1 x2 x3 x4 x5) (kernelRun0_B.sl.r_117 c i arg2 harg2 arg3 harg3 arg4 harg4 arg5 harg5 arg6 harg6 arg7 harg7 arg12 x0 x1 x2 x3 x4 x5) (kernelRun0_B.sl.r_121 c i arg2 harg2 arg3 harg3 arg4 harg4 arg5 harg5 arg6 harg6 arg7 harg7 arg12 x0 x1 x2 x3 x4 x5) (kernelRun0_B.sl.r_124 c i arg2 harg2 arg3 harg3 arg4 harg4 arg5 harg5 arg6 harg6 arg7 harg7 arg12 x0 x1 x2 x3 x4 x5) (kernelRun0_B.sl.r_125 c i arg2 harg2 arg3 harg3 arg4 harg4 arg5 harg5 arg6 harg6 arg7 harg7 arg12 x0 x1 x2 x3 x4 x5)) (ix4 0 0 t j) = (row x0 x1 x2 x3 x4 x5 (i 1).val 1 t).dw 256 j := by
  have hx := x_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := dk_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hd' := hd
  simp only [kernelRun0_B.sl.r_91] at hd'
  simp only [kernelRun0_B.sl.r_68, kernelRun0_B.sl.r_92, kernelRun0_B.sl.r_94, kernelRun0_B.sl.r_95, kernelRun0_B.sl.r_98, kernelRun0_B.sl.r_100, kernelRun0_B.sl.r_101, kernelRun0_B.sl.r_105, kernelRun0_B.sl.r_107, kernelRun0_B.sl.r_109, kernelRun0_B.sl.r_111, kernelRun0_B.sl.r_114, kernelRun0_B.sl.r_116, kernelRun0_B.sl.r_117, kernelRun0_B.sl.r_121, kernelRun0_B.sl.r_123, kernelRun0_B.sl.r_124, kernelRun0_B.sl.r_125, k0_pay137, k0_pay162, k0_pay163, k0_pay167, k0_pay168, k0_pay172, k0_pay173, k0_pay179, k0_pay180, k0_pay185, k0_pay186, k0_pay190, k0_pay191, k0_pay197, k0_pay198, k0_pay203, k0_pay204, k0_pay208, k0_pay209, k0_pay213, k0_pay214, k0_pay219, k0_pay220, k0_pay224, k0_pay225, k0_pay229, k0_pay230, k0_pay236, k0_pay237, k0_pay241, k0_pay242, k0_pay243, k0_pay247, k0_pay248, k0_pay252, View.readAt_eq_ld, Memref.IsWhole.read_unread]
  generalize hC : concatenate _ _ _ _ = C
  have key : C (ix2 j t) = ∑ s : Fin 256, (row x0 x1 x2 x3 x4 x5 (i 1).val 1 t).X j (Fin.castLE (by omega) s) * ((row x0 x1 x2 x3 x4 x5 (i 1).val 1 t).d (Fin.castLE (by omega) s) * x4 (ix3 0 0 (Fin.castLE (by omega) s))) := by
    subst hC
    fin_cases t
    all_goals pointwise []
    all_goals simp only [Fin.zero_eta, Fin.mk_one, Fin.reduceFinMk, Matrix.cons_val] at hx hd hd'
    all_goals simp only [hx, hd, hd', Memref.IsWhole.read_unread]
  pointwise []
  rw [key]
  refine congrArg₂ (· * ·) (sum_castLE (n := 256) (by omega) (fun s => (row x0 x1 x2 x3 x4 x5 (i 1).val 1 t).X j s * ((row x0 x1 x2 x3 x4 x5 (i 1).val 1 t).d s * (row x0 x1 x2 x3 x4 x5 (i 1).val 1 t).ks s))) ?_
  first | rfl | (simp only [Memref.IsWhole.read_unread]; rfl)

/-- The gradient of the keys of block 1, added to what the accumulator held. -/
theorem dkk_1 (OLD : Vec Ideal S128x256 .f32) (k : Fin 128) (s : Fin 256) :
    (k0_pay254 (kernelRun0_B.sl.r_66 c arg2 harg2 x0) OLD (kernelRun0_B.sl.v1306 c i arg2 harg2 arg3 harg3 arg4 harg4 arg5 harg5 arg6 harg6 arg7 harg7 arg12 arg14 x0 x1 x2 x3 x4 x5)) (ix2 k s) = OLD (ix2 k s) + ∑ t : Fin 16, (row x0 x1 x2 x3 x4 x5 (i 1).val 1 t).dk (Fin.castLE (by omega) s) k := by
  have hw := fun t j => wk_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s
  simp only [kernelRun0_B.sl.r_66, k0_pay134, k0_pay254, View.readAt_eq_ld, Memref.IsWhole.read_unread]
  pointwise []
  refine congrArg (_ + ·) ((sum_rows _).trans (Finset.sum_congr rfl fun t _ => Finset.sum_congr rfl fun j _ => ?_))
  have h1 : (64 * t.val + j.val) / 64 = t.val := by omega
  have h2 : (64 * t.val + j.val) % 64 = j.val := by omega
  simp only [hw t j ⟨64 * t.val + j.val, by omega⟩ rfl, h1, h2]
  first | rfl | (simp only [Memref.IsWhole.read_unread]; rfl)

end Cert.KernelIdeal.Hand
-- ==== Proof.Val.Blk2.lean ====
/- BLOCK 2 of the query tokens: what the kernel's words hold, entry by entry, in terms of the rows of `Row.lean`. -/
module

public import proofs.«01_k».proof.Proof.Val.Base

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole)
variable (x0 : Vec Ideal S1x3x16x64x128 .fp8e4m3) (x1 : Vec Ideal S1x3x16x64 .f32) (x2 : Vec Ideal S1x3x16x64 .bf16) (x3 : Vec Ideal S1x384x128 .fp8e4m3) (x4 : Vec Ideal S1x1x384 .f32) (x5 : Vec Ideal S1x3x16x384 .f32) (xs4 : Vec Ideal S128x384 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4

/-- The scores of block 2, as stored: row `64 t + j` is head `j` of token `t`. -/
theorem xP_2 (t : Fin 16) (j : Fin 64) (s : Fin 384) (r : Fin 1024) (hr : r.val = 64 * t.val + j.val) :
    (k0_pay256 (kernelRun0_B.sl.r c arg5 harg5 x3) (View.readAt (Elt Ideal) arg2.view (Rect.unit (s := S1x3x16x64x128) ![0, 2, 0, 0, 0] S1x1x16x64x128.size inb_S1x3x16x64x128_S1x1x16x64x128_0_2_0_0_0).toLoadRect (harg2.unread x0))) (ix2 r s) = (row x0 x1 x2 x3 x4 x5 (i 1).val 2 t).X j (Fin.castLE (by omega) s) := by
  have h1 : r.val / 64 = t.val := by omega
  have h2 : r.val % 64 = j.val := by omega
  simp only [kernelRun0_B.sl.r, k0_pay7, k0_pay255, k0_pay256, View.readAt_eq_ld, Memref.IsWhole.read_unread]
  pointwise []
  simp only [h1, h2]
  rfl

/-- The scores of block 2, as the loads of a token read them. -/
theorem x_2 (t : Fin 16) (j : Fin 64) (s : Fin 384) :
    (![kernelRun0_B.sl.v1329 c arg2 harg2 arg5 harg5 arg12 x0 x3, kernelRun0_B.sl.v1335 c arg2 harg2 arg5 harg5 arg12 x0 x3, kernelRun0_B.sl.v1341 c arg2 harg2 arg5 harg5 arg12 x0 x3, kernelRun0_B.sl.v1347 c arg2 harg2 arg5 harg5 arg12 x0 x3, kernelRun0_B.sl.v1353 c arg2 harg2 arg5 harg5 arg12 x0 x3, kernelRun0_B.sl.v1359 c arg2 harg2 arg5 harg5 arg12 x0 x3, kernelRun0_B.sl.v1365 c arg2 harg2 arg5 harg5 arg12 x0 x3, kernelRun0_B.sl.v1371 c arg2 harg2 arg5 harg5 arg12 x0 x3, kernelRun0_B.sl.v1377 c arg2 harg2 arg5 harg5 arg12 x0 x3, kernelRun0_B.sl.v1383 c arg2 harg2 arg5 harg5 arg12 x0 x3, kernelRun0_B.sl.v1389 c arg2 harg2 arg5 harg5 arg12 x0 x3, kernelRun0_B.sl.v1395 c arg2 harg2 arg5 harg5 arg12 x0 x3, kernelRun0_B.sl.v1401 c arg2 harg2 arg5 harg5 arg12 x0 x3, kernelRun0_B.sl.v1407 c arg2 harg2 arg5 harg5 arg12 x0 x3, kernelRun0_B.sl.v1413 c arg2 harg2 arg5 harg5 arg12 x0 x3, kernelRun0_B.sl.v1419 c arg2 harg2 arg5 harg5 arg12 x0 x3] : Fin 16 → Vec Ideal S64x384 .f32) t (ix2 j s) = (row x0 x1 x2 x3 x4 x5 (i 1).val 2 t).X j (Fin.castLE (by omega) s) := by
  fin_cases t <;> exact (rc_x _ _ _ _ _ _ j s).trans (xP_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 _ j s _ rfl)

/-- The log-softmax of block 2. -/
theorem logq_2 (t : Fin 16) (s : Fin 384) : kernelRun0_B.sl.r_146 c i arg2 harg2 arg3 harg3 arg4 harg4 arg5 harg5 arg6 harg6 arg12 x0 x1 x2 x3 x4 (ix2 t s) = (row x0 x1 x2 x3 x4 x5 (i 1).val 2 t).logq (Fin.castLE (by omega) s) := by
  have hx := x_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hT : (row x0 x1 x2 x3 x4 x5 (i 1).val 2 t).T < 384 := by
    show 128 * 2 + 16 * (i 1).val + t.val < 384
    have := (i 1).isLt
    have e : grid0.bound 1 = 8 := rfl
    omega
  simp only [kernelRun0_B.sl.r_2, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_146, k0_pay9, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, View.readAt_eq_ld, Memref.IsWhole.read_unread]
  generalize hC : concatenate _ _ _ _ = C
  have key : ∀ x : Fin 384, C (ix2 t x) = ∑ j, (row x0 x1 x2 x3 x4 x5 (i 1).val 2 t).X j (Fin.castLE (by omega) x) * (x2 (ix4 0 2 t j) * x1 (ix4 0 2 t j)) := by
    intro x
    subst hC
    fin_cases t
    all_goals pointwise []
    all_goals simp only [Fin.zero_eta, Fin.mk_one, Fin.reduceFinMk, Matrix.cons_val] at hx
    all_goals simp only [hx, Memref.IsWhole.read_unread]
  pointwise []
  try simp only [Memref.IsWhole.read_unread]
  exact logq_of (row x0 x1 x2 x3 x4 x5 (i 1).val 2 t) (by omega) hT (fun x => C (ix2 t x) * x4 (ix3 0 0 ⟨x.val, by omega⟩))
    (fun x => congrArg (· * _) (key x)) _ (fun x => vis_word (i 1) 2 t x.val (by omega) _ rfl _ rfl) s

/-- The difference of the two distributions on block 2. -/
theorem d_2 (t : Fin 16) (s : Fin 384) : kernelRun0_B.sl.r_148 c i arg2 harg2 arg3 harg3 arg4 harg4 arg5 harg5 arg6 harg6 arg7 harg7 arg12 x0 x1 x2 x3 x4 x5 (ix2 t s) = (row x0 x1 x2 x3 x4 x5 (i 1).val 2 t).d (Fin.castLE (by omega) s) := by
  have hq := logq_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  simp only [kernelRun0_B.sl.r_145, kernelRun0_B.sl.r_147, kernelRun0_B.sl.r_148, k0_pay273, k0_pay275, k0_pay277, View.readAt_eq_ld, Memref.IsWhole.read_unread]
  pointwise []
  try simp only [Memref.IsWhole.read_unread]
  exact (congrArg (· - _) (vis_select (i 1) 2 t s.val (by omega) _ rfl _ rfl _ _)).trans (by rw [hq]; rfl)

/-- The difference on block 2, times the key scale. -/
theorem dk_2 (t : Fin 16) (s : Fin 384) : kernelRun0_B.sl.r_149 c i arg2 harg2 arg3 harg3 arg4 harg4 arg5 harg5 arg6 harg6 arg7 harg7 arg12 x0 x1 x2 x3 x4 x5 (ix2 t s) = (row x0 x1 x2 x3 x4 x5 (i 1).val 2 t).d (Fin.castLE (by omega) s) * x4 (ix3 0 0 (Fin.castLE (by omega) s)) := by
  have hd := d_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  simp only [kernelRun0_B.sl.r_2, kernelRun0_B.sl.r_145, kernelRun0_B.sl.r_147, kernelRun0_B.sl.r_148, kernelRun0_B.sl.r_149, k0_pay9, k0_pay273, k0_pay275, k0_pay277, k0_pay278, View.readAt_eq_ld, Memref.IsWhole.read_unread] at hd ⊢
  pointwise []
  refine Eq.trans ?_ (congrArg (· * _) hd)
  try simp only [Memref.IsWhole.read_unread]
  pointwise []
  try simp only [Memref.IsWhole.read_unread]
  rfl

/-- The divergences of block 2, the same in every lane. -/
theorem kl_2 (t : Fin 16) (l : Fin 128) : (k0_pay276 (BitVec.ofNat 32 ↑(i 1)) (kernelRun0_B.sl.r_143 c arg2 harg2 arg3 harg3 arg4 harg4 arg5 harg5 arg12 x0 x1 x2 x3) (kernelRun0_B.sl.r_144 c arg6 harg6 x4) (View.readAt (Elt Ideal) arg7.view (Rect.unit (s := S1x3x16x384) ![0, 2, 0, 0] S1x1x16x384.size inb_S1x3x16x384_S1x1x16x384_0_2_0_0).toLoadRect (harg7.unread x5))) (ix2 t l) = (row x0 x1 x2 x3 x4 x5 (i 1).val 2 t).kl := by
  have hq := logq_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hT : (row x0 x1 x2 x3 x4 x5 (i 1).val 2 t).T < 384 := by
    show 128 * 2 + 16 * (i 1).val + t.val < 384
    have := (i 1).isLt
    have e : grid0.bound 1 = 8 := rfl
    omega
  simp only [kernelRun0_B.sl.r_146] at hq
  simp only [k0_pay273, k0_pay275, k0_pay276]
  pointwise []
  refine kl_of (row x0 x1 x2 x3 x4 x5 (i 1).val 2 t) (by omega) hT _ fun s => ?_
  exact kl_term (row x0 x1 x2 x3 x4 x5 (i 1).val 2 t) (i 1) 2 t s (by omega) _ rfl _ rfl rfl _ (by simp only [View.readAt_eq_ld, Memref.IsWhole.read_unread]; pointwise []; rfl) _ (hq s)

/-- On block 2, the weights of the query gradient, as stored token by token. -/
theorem wqP_2 (t : Fin 16) (j : Fin 64) (s : Fin 384) :
    (![k0_pay282 (kernelRun0_B.sl.r_2 c arg6 harg6 x4) (kernelRun0_B.sl.r_129 c arg4 harg4 x2) (kernelRun0_B.sl.r_145 i) (kernelRun0_B.sl.r_146 c i arg2 harg2 arg3 harg3 arg4 harg4 arg5 harg5 arg6 harg6 arg12 x0 x1 x2 x3 x4) (kernelRun0_B.sl.r_147 c arg7 harg7 x5) (kernelRun0_B.sl.v1329 c arg2 harg2 arg5 harg5 arg12 x0 x3), k0_pay287 (kernelRun0_B.sl.r_129 c arg4 harg4 x2) (kernelRun0_B.sl.r_151 c i arg2 harg2 arg3 harg3 arg4 harg4 arg5 harg5 arg6 harg6 arg7 harg7 arg12 x0 x1 x2 x3 x4 x5) (kernelRun0_B.sl.r_153 c arg2 harg2 arg5 harg5 arg12 x0 x3), k0_pay292 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1341 c arg2 harg2 arg5 harg5 arg12 x0 x3), k0_pay298 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1347 c arg2 harg2 arg5 harg5 arg12 x0 x3), k0_pay303 (kernelRun0_B.sl.r_129 c arg4 harg4 x2) (kernelRun0_B.sl.v1353 c arg2 harg2 arg5 harg5 arg12 x0 x3) (kernelRun0_B.sl.r_158 c i arg2 harg2 arg3 harg3 arg4 harg4 arg5 harg5 arg6 harg6 arg7 harg7 arg12 x0 x1 x2 x3 x4 x5), k0_pay308 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1359 c arg2 harg2 arg5 harg5 arg12 x0 x3), k0_pay315 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1365 c arg2 harg2 arg5 harg5 arg12 x0 x3), k0_pay321 (kernelRun0_B.sl.r_129 c arg4 harg4 x2) (kernelRun0_B.sl.v1371 c arg2 harg2 arg5 harg5 arg12 x0 x3) (kernelRun0_B.sl.r_165 c i arg2 harg2 arg3 harg3 arg4 harg4 arg5 harg5 arg6 harg6 arg7 harg7 arg12 x0 x1 x2 x3 x4 x5), kernelRun0_B.sl.r_170 c i arg2 harg2 arg3 harg3 arg4 harg4 arg5 harg5 arg6 harg6 arg7 harg7 arg12 x0 x1 x2 x3 x4 x5, k0_pay331 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1383 c arg2 harg2 arg5 harg5 arg12 x0 x3), k0_pay336 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1389 c arg2 harg2 arg5 harg5 arg12 x0 x3), k0_pay342 (kernelRun0_B.sl.r_175 c i arg2 harg2 arg3 harg3 arg4 harg4 arg5 harg5 arg6 harg6 arg7 harg7 arg12 x0 x1 x2 x3 x4 x5), k0_pay347 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1401 c arg2 harg2 arg5 harg5 arg12 x0 x3), k0_pay352 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1407 c arg2 harg2 arg5 harg5 arg12 x0 x3), k0_pay358 (kernelRun0_B.sl.r_180 c i arg2 harg2 arg3 harg3 arg4 harg4 arg5 harg5 arg6 harg6 arg7 harg7 arg12 x0 x1 x2 x3 x4 x5), k0_pay363 (kernelRun0_B.sl.r_129 c arg4 harg4 x2) (kernelRun0_B.sl.r_149 c i arg2 harg2 arg3 harg3 arg4 harg4 arg5 harg5 arg6 harg6 arg7 harg7 arg12 x0 x1 x2 x3 x4 x5) (kernelRun0_B.sl.v1419 c arg2 harg2 arg5 harg5 arg12 x0 x3)] : Fin 16 → Vec Ideal S64x384 .bf16) t (ix2 j s) = (row x0 x1 x2 x3 x4 x5 (i 1).val 2 t).wq j (Fin.castLE (by omega) s) := by
  have hx := x_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := dk_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  have hd' := hd
  simp only [kernelRun0_B.sl.r_149] at hd'
  fin_cases t
  all_goals simp only [Fin.zero_eta, Fin.mk_one, Fin.reduceFinMk, Matrix.cons_val] at hx hd hd' ⊢
  all_goals simp only [kernelRun0_B.sl.r_129, kernelRun0_B.sl.r_151, kernelRun0_B.sl.r_153, kernelRun0_B.sl.r_158, kernelRun0_B.sl.r_165, kernelRun0_B.sl.r_170, kernelRun0_B.sl.r_175, kernelRun0_B.sl.r_180, k0_pay257, k0_pay279, k0_pay281, k0_pay282, k0_pay284, k0_pay286, k0_pay287, k0_pay289, k0_pay291, k0_pay292, k0_pay295, k0_pay297, k0_pay298, k0_pay300, k0_pay302, k0_pay303, k0_pay305, k0_pay307, k0_pay308, k0_pay312, k0_pay314, k0_pay315, k0_pay317, k0_pay320, k0_pay321, k0_pay323, k0_pay325, k0_pay326, k0_pay328, k0_pay330, k0_pay331, k0_pay333, k0_pay335, k0_pay336, k0_pay338, k0_pay340, k0_pay341, k0_pay342, k0_pay344, k0_pay346, k0_pay347, k0_pay349, k0_pay351, k0_pay352, k0_pay354, k0_pay356, k0_pay357, k0_pay358, k0_pay360, k0_pay362, k0_pay363, View.readAt_eq_ld, Memref.IsWhole.read_unread]
  all_goals pointwise []
  all_goals simp only [hx, hd, hd', Memref.IsWhole.read_unread]
  all_goals rfl

/-- On block 2, the weights of the query gradient, as read back. -/
theorem wq_2 (t : Fin 16) (j : Fin 64) (s : Fin 384) (r : Fin 1024) (hr : r.val = 64 * t.val + j.val) :
    kernelRun0_B.sl.v1946 c i arg2 harg2 arg3 harg3 arg4 harg4 arg5 harg5 arg6 harg6 arg7 harg7 arg12 arg13 x0 x1 x2 x3 x4 x5 (ix2 r s) = (row x0 x1 x2 x3 x4 x5 (i 1).val 2 t).wq j (Fin.castLE (by omega) s) :=
  by
  simp only [kernelRun0_B.sl.v1946, kernelRun0_B.sl.HS1_48]
  exact (rc_rows' _ _ _ _ _ _ _ _ _ _ _ _ _ _ _ _ _ _ _ _ _ _ _ _ _ _ _ _ _ _ _ _ _ _ _ t j s r hr).trans (wqP_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s)

/-- On block 2, the weights of the key gradient, as stored token by token. -/
theorem wkP_2 (t : Fin 16) (j : Fin 64) (s : Fin 384) :
    (![k0_pay283 (kernelRun0_B.sl.r_131 c arg3 harg3 arg4 harg4 x1 x2) (kernelRun0_B.sl.r_145 i) (kernelRun0_B.sl.r_146 c i arg2 harg2 arg3 harg3 arg4 harg4 arg5 harg5 arg6 harg6 arg12 x0 x1 x2 x3 x4) (kernelRun0_B.sl.r_147 c arg7 harg7 x5) (kernelRun0_B.sl.v1329 c arg2 harg2 arg5 harg5 arg12 x0 x3), k0_pay288 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.r_153 c arg2 harg2 arg5 harg5 arg12 x0 x3), k0_pay294 (kernelRun0_B.sl.r_155 c arg2 harg2 arg5 harg5 arg12 x0 x3) (kernelRun0_B.sl.r_156 c i arg2 harg2 arg3 harg3 arg4 harg4 arg5 harg5 arg6 harg6 arg7 harg7 arg12 x0 x1 x2 x3 x4 x5), k0_pay299 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1347 c arg2 harg2 arg5 harg5 arg12 x0 x3), k0_pay304 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1353 c arg2 harg2 arg5 harg5 arg12 x0 x3), k0_pay311 (kernelRun0_B.sl.r_161 c arg2 harg2 arg5 harg5 arg12 x0 x3) (kernelRun0_B.sl.r_162 c arg3 harg3 arg4 harg4 x1 x2) (kernelRun0_B.sl.r_163 c i arg2 harg2 arg3 harg3 arg4 harg4 arg5 harg5 arg6 harg6 arg7 harg7 arg12 x0 x1 x2 x3 x4 x5), k0_pay316 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1365 c arg2 harg2 arg5 harg5 arg12 x0 x3), k0_pay322 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1371 c arg2 harg2 arg5 harg5 arg12 x0 x3), k0_pay327 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.r_169 c arg2 harg2 arg5 harg5 arg12 x0 x3), k0_pay332 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1383 c arg2 harg2 arg5 harg5 arg12 x0 x3), k0_pay337 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1389 c arg2 harg2 arg5 harg5 arg12 x0 x3), k0_pay343 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.r_174 c arg2 harg2 arg5 harg5 arg12 x0 x3), k0_pay348 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1401 c arg2 harg2 arg5 harg5 arg12 x0 x3), k0_pay353 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.v1407 c arg2 harg2 arg5 harg5 arg12 x0 x3), k0_pay359 (kernelRun0_B.sl.r_131 c arg3 harg3 arg4 harg4 x1 x2) (kernelRun0_B.sl.r_148 c i arg2 harg2 arg3 harg3 arg4 harg4 arg5 harg5 arg6 harg6 arg7 harg7 arg12 x0 x1 x2 x3 x4 x5) (kernelRun0_B.sl.r_179 c arg2 harg2 arg5 harg5 arg12 x0 x3), k0_pay365 (kernelRun0_B.sl.r_182 c i arg2 harg2 arg3 harg3 arg4 harg4 arg5 harg5 arg6 harg6 arg7 harg7 arg12 x0 x1 x2 x3 x4 x5)] : Fin 16 → Vec Ideal S64x384 .bf16) t (ix2 j s) = (row x0 x1 x2 x3 x4 x5 (i 1).val 2 t).wk j (Fin.castLE (by omega) s) := by
  have hx := x_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := d_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t s
  have hd' := hd
  simp only [kernelRun0_B.sl.r_148] at hd'
  fin_cases t
  all_goals simp only [Fin.zero_eta, Fin.mk_one, Fin.reduceFinMk, Matrix.cons_val] at hx hd hd' ⊢
  all_goals simp only [kernelRun0_B.sl.r_131, kernelRun0_B.sl.r_153, kernelRun0_B.sl.r_155, kernelRun0_B.sl.r_156, kernelRun0_B.sl.r_161, kernelRun0_B.sl.r_162, kernelRun0_B.sl.r_163, kernelRun0_B.sl.r_169, kernelRun0_B.sl.r_174, kernelRun0_B.sl.r_179, kernelRun0_B.sl.r_182, k0_pay257, k0_pay258, k0_pay259, k0_pay281, k0_pay283, k0_pay286, k0_pay288, k0_pay291, k0_pay293, k0_pay294, k0_pay297, k0_pay299, k0_pay302, k0_pay304, k0_pay307, k0_pay309, k0_pay310, k0_pay311, k0_pay314, k0_pay316, k0_pay320, k0_pay322, k0_pay325, k0_pay327, k0_pay330, k0_pay332, k0_pay335, k0_pay337, k0_pay340, k0_pay343, k0_pay346, k0_pay348, k0_pay351, k0_pay353, k0_pay356, k0_pay359, k0_pay362, k0_pay364, k0_pay365, View.readAt_eq_ld, Memref.IsWhole.read_unread]
  all_goals pointwise []
  all_goals simp only [hx, hd, hd', Memref.IsWhole.read_unread]
  all_goals rfl

/-- On block 2, the weights of the key gradient, as read back. -/
theorem wk_2 (t : Fin 16) (j : Fin 64) (s : Fin 384) (r : Fin 1024) (hr : r.val = 64 * t.val + j.val) :
    kernelRun0_B.sl.v1954 c i arg2 harg2 arg3 harg3 arg4 harg4 arg5 harg5 arg6 harg6 arg7 harg7 arg12 arg14 x0 x1 x2 x3 x4 x5 (ix2 r s) = (row x0 x1 x2 x3 x4 x5 (i 1).val 2 t).wk j (Fin.castLE (by omega) s) :=
  by
  simp only [kernelRun0_B.sl.v1954, kernelRun0_B.sl.HS2_48, kernelRun0_B.sl.HS2_47]
  exact (rc_rows' _ _ _ _ _ _ _ _ _ _ _ _ _ _ _ _ _ _ _ _ _ _ _ _ _ _ _ _ _ _ _ _ _ _ _ t j s r hr).trans (wkP_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s)

/-- The gradient of the query vectors of block 2. -/
theorem dq_2 (t : Fin 16) (j : Fin 64) (k : Fin 128) : (k0_pay1 (kernelRun0_B.sl.r_1 c arg5 harg5 x3) (kernelRun0_B.sl.v1946 c i arg2 harg2 arg3 harg3 arg4 harg4 arg5 harg5 arg6 harg6 arg7 harg7 arg12 arg13 x0 x1 x2 x3 x4 x5)) (ix5 0 0 t j k) = (row x0 x1 x2 x3 x4 x5 (i 1).val 2 t).dq 384 j k := by
  have hw := wq_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  simp only [kernelRun0_B.sl.r_1, k0_pay1, k0_pay7, k0_pay8, View.readAt_eq_ld, Memref.IsWhole.read_unread]
  pointwise []
  refine (Finset.sum_congr rfl fun s _ => ?_).trans (sum_castLE (n := 384) (by omega) (fun s => (row x0 x1 x2 x3 x4 x5 (i 1).val 2 t).wq j s * (row x0 x1 x2 x3 x4 x5 (i 1).val 2 t).k s k))
  refine congrArg₂ (· * ·) (hw s _ ?_) ?_
  · simp only []
    omega
  · first | rfl | (simp only [Memref.IsWhole.read_unread]; rfl)

/-- The gradient of the head weights of block 2. -/
theorem dw_2 (t : Fin 16) (j : Fin 64) : (k0_pay366 (kernelRun0_B.sl.r_130 c arg3 harg3 x1) (kernelRun0_B.sl.v1940 c i arg2 harg2 arg3 harg3 arg4 harg4 arg5 harg5 arg6 harg6 arg7 harg7 arg12 x0 x1 x2 x3 x4 x5)) (ix4 0 0 t j) = (row x0 x1 x2 x3 x4 x5 (i 1).val 2 t).dw 384 j := by
  have hx := x_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  have hd := dk_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t
  have hd' := hd
  simp only [kernelRun0_B.sl.r_149] at hd'
  simp only [kernelRun0_B.sl.r_130, kernelRun0_B.sl.r_150, kernelRun0_B.sl.r_152, kernelRun0_B.sl.r_154, kernelRun0_B.sl.r_157, kernelRun0_B.sl.r_159, kernelRun0_B.sl.r_160, kernelRun0_B.sl.r_164, kernelRun0_B.sl.r_166, kernelRun0_B.sl.r_167, kernelRun0_B.sl.r_168, kernelRun0_B.sl.r_171, kernelRun0_B.sl.r_172, kernelRun0_B.sl.r_173, kernelRun0_B.sl.r_176, kernelRun0_B.sl.r_177, kernelRun0_B.sl.r_178, kernelRun0_B.sl.r_181, kernelRun0_B.sl.v1940, k0_pay258, k0_pay279, k0_pay280, k0_pay284, k0_pay285, k0_pay289, k0_pay290, k0_pay295, k0_pay296, k0_pay300, k0_pay301, k0_pay305, k0_pay306, k0_pay312, k0_pay313, k0_pay317, k0_pay318, k0_pay319, k0_pay323, k0_pay324, k0_pay328, k0_pay329, k0_pay333, k0_pay334, k0_pay338, k0_pay339, k0_pay344, k0_pay345, k0_pay349, k0_pay350, k0_pay354, k0_pay355, k0_pay360, k0_pay361, k0_pay366, View.readAt_eq_ld, Memref.IsWhole.read_unread]
  generalize hC : concatenate _ _ _ _ = C
  have key : C (ix2 j t) = ∑ s : Fin 384, (row x0 x1 x2 x3 x4 x5 (i 1).val 2 t).X j (Fin.castLE (by omega) s) * ((row x0 x1 x2 x3 x4 x5 (i 1).val 2 t).d (Fin.castLE (by omega) s) * x4 (ix3 0 0 (Fin.castLE (by omega) s))) := by
    subst hC
    fin_cases t
    all_goals pointwise []
    all_goals simp only [Fin.zero_eta, Fin.mk_one, Fin.reduceFinMk, Matrix.cons_val] at hx hd hd'
    all_goals simp only [hx, hd, hd', Memref.IsWhole.read_unread]
  pointwise []
  rw [key]
  refine congrArg₂ (· * ·) (sum_castLE (n := 384) (by omega) (fun s => (row x0 x1 x2 x3 x4 x5 (i 1).val 2 t).X j s * ((row x0 x1 x2 x3 x4 x5 (i 1).val 2 t).d s * (row x0 x1 x2 x3 x4 x5 (i 1).val 2 t).ks s))) ?_
  first | rfl | (simp only [Memref.IsWhole.read_unread]; rfl)

/-- The gradient of the keys of block 2, added to what the accumulator held. -/
theorem dkk_2 (OLD : Vec Ideal S128x384 .f32) (k : Fin 128) (s : Fin 384) :
    (k0_pay2 (kernelRun0_B.sl.r_128 c arg2 harg2 x0) OLD (kernelRun0_B.sl.v1954 c i arg2 harg2 arg3 harg3 arg4 harg4 arg5 harg5 arg6 harg6 arg7 harg7 arg12 arg14 x0 x1 x2 x3 x4 x5)) (ix2 k s) = OLD (ix2 k s) + ∑ t : Fin 16, (row x0 x1 x2 x3 x4 x5 (i 1).val 2 t).dk (Fin.castLE (by omega) s) k := by
  have hw := fun t j => wk_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j s
  simp only [kernelRun0_B.sl.r_128, k0_pay2, k0_pay255, View.readAt_eq_ld, Memref.IsWhole.read_unread]
  pointwise []
  refine congrArg (_ + ·) ((sum_rows _).trans (Finset.sum_congr rfl fun t _ => Finset.sum_congr rfl fun j _ => ?_))
  have h1 : (64 * t.val + j.val) / 64 = t.val := by omega
  have h2 : (64 * t.val + j.val) % 64 = j.val := by omega
  simp only [hw t j ⟨64 * t.val + j.val, by omega⟩ rfl, h1, h2]
  first | rfl | (simp only [Memref.IsWhole.read_unread]; rfl)

end Cert.KernelIdeal.Hand
-- ==== Proof.Val.Out.lean ====
/- WHAT A GRID POINT LEAVES: each result window, and the two accumulators, entry by entry in terms of the rows of `Row.lean`, after the stores of a
   whole point (`Blk0`–`Blk2` say what each store holds). -/
module

public import proofs.«01_k».proof.Proof.Val.Blk0
public import proofs.«01_k».proof.Proof.Val.Blk1
public import proofs.«01_k».proof.Proof.Val.Blk2
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- The query gradient of a grid point with query tile `n`: the sum over the keys up to the end of the token's query block. -/
def dqOut (x0 : Vec Ideal S1x3x16x64x128 .fp8e4m3) (x1 : Vec Ideal S1x3x16x64 .f32) (x2 : Vec Ideal S1x3x16x64 .bf16) (x3 : Vec Ideal S1x384x128 .fp8e4m3)
    (x4 : Vec Ideal S1x1x384 .f32) (x5 : Vec Ideal S1x3x16x384 .f32) (n : ℕ) : Vec Ideal S1x3x16x64x128 .f32 :=
  fun y => (row x0 x1 x2 x3 x4 x5 n (y 1) (y 2)).dq (128 * ((y 1).val + 1)) (y 3) (y 4)

/-- The gradient of the head weights of a grid point, likewise. -/
def dwOut (x0 : Vec Ideal S1x3x16x64x128 .fp8e4m3) (x1 : Vec Ideal S1x3x16x64 .f32) (x2 : Vec Ideal S1x3x16x64 .bf16) (x3 : Vec Ideal S1x384x128 .fp8e4m3)
    (x4 : Vec Ideal S1x1x384 .f32) (x5 : Vec Ideal S1x3x16x384 .f32) (n : ℕ) : Vec Ideal S1x3x16x64 .f32 :=
  fun y => (row x0 x1 x2 x3 x4 x5 n (y 1) (y 2)).dw (128 * ((y 1).val + 1)) (y 3)

/-- The divergences of a grid point: token `r` of the sequence is token `r % 16` of the point's part of block `r / 128`. -/
def klOut (x0 : Vec Ideal S1x3x16x64x128 .fp8e4m3) (x1 : Vec Ideal S1x3x16x64 .f32) (x2 : Vec Ideal S1x3x16x64 .bf16) (x3 : Vec Ideal S1x384x128 .fp8e4m3)
    (x4 : Vec Ideal S1x1x384 .f32) (x5 : Vec Ideal S1x3x16x384 .f32) (n : ℕ) (r : Fin 384) : EReal :=
  (row x0 x1 x2 x3 x4 x5 n ⟨r.val / 128, by omega⟩ ⟨r.val % 16, by omega⟩).kl

/-- The key gradient after a grid point: the point's forty-eight tokens added, block `b`'s to the keys below the block's end. -/
def dkStep (x0 : Vec Ideal S1x3x16x64x128 .fp8e4m3) (x1 : Vec Ideal S1x3x16x64 .f32) (x2 : Vec Ideal S1x3x16x64 .bf16) (x3 : Vec Ideal S1x384x128 .fp8e4m3)
    (x4 : Vec Ideal S1x1x384 .f32) (x5 : Vec Ideal S1x3x16x384 .f32) (n : ℕ) (old : Vec Ideal S128x384 .f32) : Vec Ideal S128x384 .f32 :=
  fun y => old y + ∑ b : Fin 3, if (y 1).val < 128 * (b.val + 1) then ∑ t : Fin 16, (row x0 x1 x2 x3 x4 x5 n b t).dk (y 1) (y 0) else 0

/-- Where the rows of a block's divergences begin. -/
theorem off1_eq (i : grid0.Coords) (b : Fin 3) : k0_off1 i (BitVec.ofNat 32 (128 * b.val)) = ![128 * b.val + 16 * (i 1).val, 0] := by
  have h : ∀ (n : Fin 8) (b : Fin 3), (Scalar.indexCast (Scalar.addi (BitVec.ofNat 32 (128 * b.val)) (Scalar.muli (BitVec.ofNat 32 n.val) 16#32))).toNat = 128 * b.val + 16 * n.val := by decide +kernel
  unfold k0_off1
  exact congrArg (fun z => ![z, 0]) (h (i 1) b)

section Reads

variable {sg : RefSig} {κ : Kind} {sp : Space}

/-- A read after three stores of one block each (the query gradient's). -/
theorem rd3_dq (v : View sg κ sp S1x3x16x64x128 .f32) (f : v.ty.Contents (Elt Ideal)) (P0 P1 P2 : Vec Ideal ⟨5, ![1, 1, 16, 64, 128]⟩ .f32)
    (i0 : ∀ a, (![0, 0, 0, 0, 0] : Fin 5 → ℕ) a + (![1, 1, 16, 64, 128] : Fin 5 → ℕ) a ≤ S1x3x16x64x128.size a)
    (i1 : ∀ a, (![0, 1, 0, 0, 0] : Fin 5 → ℕ) a + (![1, 1, 16, 64, 128] : Fin 5 → ℕ) a ≤ S1x3x16x64x128.size a)
    (i2 : ∀ a, (![0, 2, 0, 0, 0] : Fin 5 → ℕ) a + (![1, 1, 16, 64, 128] : Fin 5 → ℕ) a ≤ S1x3x16x64x128.size a)
    (b : Fin 3) (t : Fin 16) (j : Fin 64) (k : Fin 128) :
    v.read (Elt Ideal) (v.writes (Elt Ideal) f [(⟨Rect.unit (s := S1x3x16x64x128) ![0, 2, 0, 0, 0] ![1, 1, 16, 64, 128] i2, P2⟩ : View.Piece (Elt Ideal) S1x3x16x64x128 .f32),
        (⟨Rect.unit (s := S1x3x16x64x128) ![0, 1, 0, 0, 0] ![1, 1, 16, 64, 128] i1, P1⟩ : View.Piece (Elt Ideal) S1x3x16x64x128 .f32),
        (⟨Rect.unit (s := S1x3x16x64x128) ![0, 0, 0, 0, 0] ![1, 1, 16, 64, 128] i0, P0⟩ : View.Piece (Elt Ideal) S1x3x16x64x128 .f32)]) (ix5 0 b t j k)
      = (![P0, P1, P2] : Fin 3 → Vec Ideal ⟨5, ![1, 1, 16, 64, 128]⟩ .f32) b (ix5 0 0 t j k) := by
  have hm : ∀ (b' : Fin 3) (a : Fin 5), ((ix5 0 b' t j k : S1x3x16x64x128.Idx) a).val = (![0, b'.val, 0, 0, 0] : Fin 5 → ℕ) a + ((ix5 0 0 t j k : Shape.Idx ⟨5, ![1, 1, 16, 64, 128]⟩) a).val := by
    intro b' a
    fin_cases a
    · rfl
    · show b'.val = b'.val + 0; rfl
    · show t.val = 0 + t.val; omega
    · show j.val = 0 + j.val; omega
    · show k.val = 0 + k.val; omega
  fin_cases b
  · rw [View.read_writes_cons_unit_of_not_mem v f i2 P2 _ _ rfl 1 (Or.inl (by show 0 < 2; omega)), View.read_writes_cons_unit_of_not_mem v f i1 P1 _ _ rfl 1 (Or.inl (by show 0 < 1; omega))]
    exact View.read_writes_cons_unit_of_mem v f i0 P0 _ _ (ix5 0 0 t j k) rfl (hm 0)
  · rw [View.read_writes_cons_unit_of_not_mem v f i2 P2 _ _ rfl 1 (Or.inl (by show 1 < 2; omega))]
    exact View.read_writes_cons_unit_of_mem v f i1 P1 _ _ (ix5 0 0 t j k) rfl (hm 1)
  · exact View.read_writes_cons_unit_of_mem v f i2 P2 _ _ (ix5 0 0 t j k) rfl (hm 2)

/-- The same for the gradient of the head weights. -/
theorem rd3_dw (v : View sg κ sp S1x3x16x64 .f32) (f : v.ty.Contents (Elt Ideal)) (P0 P1 P2 : Vec Ideal ⟨4, ![1, 1, 16, 64]⟩ .f32)
    (i0 : ∀ a, (![0, 0, 0, 0] : Fin 4 → ℕ) a + (![1, 1, 16, 64] : Fin 4 → ℕ) a ≤ S1x3x16x64.size a)
    (i1 : ∀ a, (![0, 1, 0, 0] : Fin 4 → ℕ) a + (![1, 1, 16, 64] : Fin 4 → ℕ) a ≤ S1x3x16x64.size a)
    (i2 : ∀ a, (![0, 2, 0, 0] : Fin 4 → ℕ) a + (![1, 1, 16, 64] : Fin 4 → ℕ) a ≤ S1x3x16x64.size a)
    (b : Fin 3) (t : Fin 16) (j : Fin 64) :
    v.read (Elt Ideal) (v.writes (Elt Ideal) f [(⟨Rect.unit (s := S1x3x16x64) ![0, 2, 0, 0] ![1, 1, 16, 64] i2, P2⟩ : View.Piece (Elt Ideal) S1x3x16x64 .f32),
        (⟨Rect.unit (s := S1x3x16x64) ![0, 1, 0, 0] ![1, 1, 16, 64] i1, P1⟩ : View.Piece (Elt Ideal) S1x3x16x64 .f32),
        (⟨Rect.unit (s := S1x3x16x64) ![0, 0, 0, 0] ![1, 1, 16, 64] i0, P0⟩ : View.Piece (Elt Ideal) S1x3x16x64 .f32)]) (ix4 0 b t j)
      = (![P0, P1, P2] : Fin 3 → Vec Ideal ⟨4, ![1, 1, 16, 64]⟩ .f32) b (ix4 0 0 t j) := by
  have hm : ∀ (b' : Fin 3) (a : Fin 4), ((ix4 0 b' t j : S1x3x16x64.Idx) a).val = (![0, b'.val, 0, 0] : Fin 4 → ℕ) a + ((ix4 0 0 t j : Shape.Idx ⟨4, ![1, 1, 16, 64]⟩) a).val := by
    intro b' a
    fin_cases a
    · rfl
    · show b'.val = b'.val + 0; rfl
    · show t.val = 0 + t.val; omega
    · show j.val = 0 + j.val; omega
  fin_cases b
  · rw [View.read_writes_cons_unit_of_not_mem v f i2 P2 _ _ rfl 1 (Or.inl (by show 0 < 2; omega)), View.read_writes_cons_unit_of_not_mem v f i1 P1 _ _ rfl 1 (Or.inl (by show 0 < 1; omega))]
    exact View.read_writes_cons_unit_of_mem v f i0 P0 _ _ (ix4 0 0 t j) rfl (hm 0)
  · rw [View.read_writes_cons_unit_of_not_mem v f i2 P2 _ _ rfl 1 (Or.inl (by show 1 < 2; omega))]
    exact View.read_writes_cons_unit_of_mem v f i1 P1 _ _ (ix4 0 0 t j) rfl (hm 1)
  · exact View.read_writes_cons_unit_of_mem v f i2 P2 _ _ (ix4 0 0 t j) rfl (hm 2)

/-- The same for the divergences' result: three stores of 128 tokens each. -/
theorem rd3_row (v : View sg κ sp S1x1x384 .f32) (f : v.ty.Contents (Elt Ideal)) (P0 P1 P2 : Vec Ideal ⟨3, ![1, 1, 128]⟩ .f32)
    (i0 : ∀ a, (![0, 0, 0] : Fin 3 → ℕ) a + (![1, 1, 128] : Fin 3 → ℕ) a ≤ S1x1x384.size a)
    (i1 : ∀ a, (![0, 0, 128] : Fin 3 → ℕ) a + (![1, 1, 128] : Fin 3 → ℕ) a ≤ S1x1x384.size a)
    (i2 : ∀ a, (![0, 0, 256] : Fin 3 → ℕ) a + (![1, 1, 128] : Fin 3 → ℕ) a ≤ S1x1x384.size a) (b : Fin 3) (s : Fin 128) (r : Fin 384) (hr : r.val = 128 * b.val + s.val) :
    v.read (Elt Ideal) (v.writes (Elt Ideal) f [(⟨Rect.unit (s := S1x1x384) ![0, 0, 256] ![1, 1, 128] i2, P2⟩ : View.Piece (Elt Ideal) S1x1x384 .f32),
        (⟨Rect.unit (s := S1x1x384) ![0, 0, 128] ![1, 1, 128] i1, P1⟩ : View.Piece (Elt Ideal) S1x1x384 .f32),
        (⟨Rect.unit (s := S1x1x384) ![0, 0, 0] ![1, 1, 128] i0, P0⟩ : View.Piece (Elt Ideal) S1x1x384 .f32)]) (ix3 0 0 r)
      = (![P0, P1, P2] : Fin 3 → Vec Ideal ⟨3, ![1, 1, 128]⟩ .f32) b (ix3 0 0 s) := by
  have hm : ∀ (o : ℕ), r.val = o + s.val → ∀ (a : Fin 3), ((ix3 0 0 r : S1x1x384.Idx) a).val = (![0, 0, o] : Fin 3 → ℕ) a + ((ix3 0 0 s : Shape.Idx ⟨3, ![1, 1, 128]⟩) a).val := by
    intro o ho a
    fin_cases a
    · rfl
    · rfl
    · exact ho
  have hs := s.isLt
  fin_cases b
  · have hr' : r.val = 0 + s.val := by simpa using hr
    rw [View.read_writes_cons_unit_of_not_mem v f i2 P2 _ _ rfl 2 (Or.inl (by show r.val < 256; omega)), View.read_writes_cons_unit_of_not_mem v f i1 P1 _ _ rfl 2 (Or.inl (by show r.val < 128; omega))]
    exact View.read_writes_cons_unit_of_mem v f i0 P0 _ _ (ix3 0 0 s) rfl (hm 0 hr')
  · have hr' : r.val = 128 + s.val := by simpa using hr
    rw [View.read_writes_cons_unit_of_not_mem v f i2 P2 _ _ rfl 2 (Or.inl (by show r.val < 256; omega))]
    exact View.read_writes_cons_unit_of_mem v f i1 P1 _ _ (ix3 0 0 s) rfl (hm 128 hr')
  · have hr' : r.val = 256 + s.val := by simpa using hr
    exact View.read_writes_cons_unit_of_mem v f i2 P2 _ _ (ix3 0 0 s) rfl (hm 256 hr')

/-- The divergences' accumulator after a point's three stores of sixteen rows each: the rows of the point's tokens are the stores', the others are kept. -/
theorem rd3_kl (v : View sg κ sp S384x128 .f32) (f : v.ty.Contents (Elt Ideal)) (n : ℕ) (hn : n < 8) (P0 P1 P2 : Vec Ideal ⟨2, ![16, 128]⟩ .f32)
    (o0 o1 o2 : Fin 2 → ℕ) (e0 : o0 = ![16 * n, 0]) (e1 : o1 = ![128 + 16 * n, 0]) (e2 : o2 = ![256 + 16 * n, 0])
    (i0 : ∀ a, o0 a + (![16, 128] : Fin 2 → ℕ) a ≤ S384x128.size a) (i1 : ∀ a, o1 a + (![16, 128] : Fin 2 → ℕ) a ≤ S384x128.size a)
    (i2 : ∀ a, o2 a + (![16, 128] : Fin 2 → ℕ) a ≤ S384x128.size a) (b : Fin 3) (r : Fin 384) (l : Fin 128) (hb : r.val / 128 = b.val) :
    v.read (Elt Ideal) (v.writes (Elt Ideal) f [(⟨Rect.unit (s := S384x128) o2 ![16, 128] i2, P2⟩ : View.Piece (Elt Ideal) S384x128 .f32),
        (⟨Rect.unit (s := S384x128) o1 ![16, 128] i1, P1⟩ : View.Piece (Elt Ideal) S384x128 .f32),
        (⟨Rect.unit (s := S384x128) o0 ![16, 128] i0, P0⟩ : View.Piece (Elt Ideal) S384x128 .f32)]) (ix2 r l)
      = if r.val % 128 / 16 = n then (![P0, P1, P2] : Fin 3 → Vec Ideal ⟨2, ![16, 128]⟩ .f32) b (ix2 ⟨r.val % 16, by omega⟩ l) else v.read (Elt Ideal) f (ix2 r l) := by
  have hr := r.isLt
  have hm : ∀ (o : ℕ), r.val = o + r.val % 16 → ∀ (a : Fin 2), ((ix2 r l : S384x128.Idx) a).val = (![o, 0] : Fin 2 → ℕ) a + ((ix2 ⟨r.val % 16, by omega⟩ l : Shape.Idx ⟨2, ![16, 128]⟩) a).val := by
    intro o ho a
    fin_cases a
    · exact ho
    · show l.val = 0 + l.val; omega
  have no : ∀ (o : Fin 2 → ℕ) (q : ℕ) (e : o = ![q, 0]) (i : ∀ a, o a + (![16, 128] : Fin 2 → ℕ) a ≤ S384x128.size a) (P : Vec Ideal ⟨2, ![16, 128]⟩ .f32) (L : List (View.Piece (Elt Ideal) S384x128 .f32)),
      (r.val < q ∨ q + 16 ≤ r.val) → v.read (Elt Ideal) (v.writes (Elt Ideal) f ((⟨Rect.unit (s := S384x128) o ![16, 128] i, P⟩ : View.Piece (Elt Ideal) S384x128 .f32) :: L)) (ix2 r l) = v.read (Elt Ideal) (v.writes (Elt Ideal) f L) (ix2 r l) :=
    fun o q e i P L h => View.read_writes_cons_unit_of_not_mem v f i P L _ e 0 h
  by_cases h : r.val % 128 / 16 = n
  · rw [if_pos h]
    fin_cases b
    · have hb' : r.val / 128 = 0 := hb
      rw [no o2 _ e2 i2 P2 _ (by omega), no o1 _ e1 i1 P1 _ (by omega)]
      exact View.read_writes_cons_unit_of_mem v f i0 P0 _ _ (ix2 ⟨r.val % 16, by omega⟩ l) e0 (hm _ (by omega))
    · have hb' : r.val / 128 = 1 := hb
      rw [no o2 _ e2 i2 P2 _ (by omega)]
      exact View.read_writes_cons_unit_of_mem v f i1 P1 _ _ (ix2 ⟨r.val % 16, by omega⟩ l) e1 (hm _ (by omega))
    · have hb' : r.val / 128 = 2 := hb
      exact View.read_writes_cons_unit_of_mem v f i2 P2 _ _ (ix2 ⟨r.val % 16, by omega⟩ l) e2 (hm _ (by omega))
  · rw [if_neg h, no o2 _ e2 i2 P2 _ (by omega), no o1 _ e1 i1 P1 _ (by omega), no o0 _ e0 i0 P0 _ (by omega)]
    rfl

/-- The key accumulator after a store of its first `M` columns. -/
theorem rd_acc {M : ℕ} (v : View sg κ sp S128x384 .f32) (f : v.ty.Contents (Elt Ideal)) (P : Vec Ideal ⟨2, ![128, M]⟩ .f32)
    (i : ∀ a, (![0, 0] : Fin 2 → ℕ) a + (![128, M] : Fin 2 → ℕ) a ≤ S128x384.size a) (L : List (View.Piece (Elt Ideal) S128x384 .f32)) (k : Fin 128) (s : Fin 384) :
    v.read (Elt Ideal) (v.writes (Elt Ideal) f ((⟨Rect.unit (s := S128x384) ![0, 0] ![128, M] i, P⟩ : View.Piece (Elt Ideal) S128x384 .f32) :: L)) (ix2 k s)
      = if h : s.val < M then P (ix2 k ⟨s.val, h⟩) else v.read (Elt Ideal) (v.writes (Elt Ideal) f L) (ix2 k s) := by
  by_cases h : s.val < M
  · rw [dif_pos h]
    refine View.read_writes_cons_unit_of_mem v f i P L _ (ix2 k ⟨s.val, h⟩) rfl fun a => ?_
    fin_cases a
    · show k.val = 0 + k.val; omega
    · show s.val = 0 + s.val; omega
  · rw [dif_neg h]
    exact View.read_writes_cons_unit_of_not_mem v f i P L _ rfl 1 (Or.inr (by show 0 + M ≤ s.val; omega))

/-- A load of the first `N` columns of the key accumulator. -/
theorem ld_acc {N : ℕ} (hN : N ≤ 384) (v : View sg κ sp S128x384 .f32) (f : v.ty.Contents (Elt Ideal))
    (i : ∀ a, (![0, 0] : Fin 2 → ℕ) a + (![128, N] : Fin 2 → ℕ) a ≤ S128x384.size a) (k : Fin 128) (s : Fin N) :
    v.readAt (Elt Ideal) (Rect.unit (s := S128x384) ![0, 0] ![128, N] i).toLoadRect f (ix2 k s) = v.read (Elt Ideal) f (ix2 k (Fin.castLE hN s)) := by
  rw [View.readAt_apply]
  congr 1
  funext a; apply Fin.ext
  fin_cases a
  · show 0 + 1 * k.val = k.val; omega
  · show 0 + 1 * s.val = s.val; omega

/-- A load of 128 rows of the divergences' accumulator from row `o`. -/
theorem ld_kl (v : View sg κ sp S384x128 .f32) (f : v.ty.Contents (Elt Ideal)) (o : ℕ)
    (i : ∀ a, (![o, 0] : Fin 2 → ℕ) a + (![128, 128] : Fin 2 → ℕ) a ≤ S384x128.size a) (s l : Fin 128) (r : Fin 384) (hr : r.val = o + s.val) :
    v.readAt (Elt Ideal) (Rect.unit (s := S384x128) ![o, 0] ![128, 128] i).toLoadRect f (ix2 s l) = v.read (Elt Ideal) f (ix2 r l) := by
  rw [View.readAt_apply]
  congr 1
  funext a; apply Fin.ext
  fin_cases a
  · show o + 1 * s.val = r.val; omega
  · show 0 + 1 * l.val = l.val; omega

end Reads

variable (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole)
variable (x0 : Vec Ideal S1x3x16x64x128 .fp8e4m3) (x1 : Vec Ideal S1x3x16x64 .f32) (x2 : Vec Ideal S1x3x16x64 .bf16) (x3 : Vec Ideal S1x384x128 .fp8e4m3) (x4 : Vec Ideal S1x1x384 .f32) (x5 : Vec Ideal S1x3x16x384 .f32) (xs4 : Vec Ideal S128x384 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4

/-- The query gradient of a point, after its three stores. -/
theorem dq_out (f : arg9.view.ty.Contents (Elt Ideal)) :
    arg9.view.read (Elt Ideal) (arg9.view.writes (Elt Ideal) f [(⟨Rect.unit (s := S1x3x16x64x128) ![0, 2, 0, 0, 0] S1x1x16x64x128.size inb_S1x3x16x64x128_S1x1x16x64x128_0_2_0_0_0, k0_pay1 (kernelRun0_B.sl.r_1 c arg5 harg5 x3) (kernelRun0_B.sl.v1946 c i arg2 harg2 arg3 harg3 arg4 harg4 arg5 harg5 arg6 harg6 arg7 harg7 arg12 arg13 x0 x1 x2 x3 x4 x5)⟩ : View.Piece (Elt Ideal) S1x3x16x64x128 .f32), (⟨Rect.unit (s := S1x3x16x64x128) ![0, 1, 0, 0, 0] S1x1x16x64x128.size inb_S1x3x16x64x128_S1x1x16x64x128_0_1_0_0_0, k0_pay253 (kernelRun0_B.sl.r_1 c arg5 harg5 x3) (kernelRun0_B.sl.v1297 c i arg2 harg2 arg3 harg3 arg4 harg4 arg5 harg5 arg6 harg6 arg7 harg7 arg12 arg13 x0 x1 x2 x3 x4 x5)⟩ : View.Piece (Elt Ideal) S1x3x16x64x128 .f32), (⟨Rect.unit (s := S1x3x16x64x128) ![0, 0, 0, 0, 0] S1x1x16x64x128.size inb_S1x3x16x64x128_S1x1x16x64x128_0_0_0_0_0, k0_pay131 (kernelRun0_B.sl.r_1 c arg5 harg5 x3) (kernelRun0_B.sl.v645 c i arg2 harg2 arg3 harg3 arg4 harg4 arg5 harg5 arg6 harg6 arg7 harg7 arg12 arg13 x0 x1 x2 x3 x4 x5)⟩ : View.Piece (Elt Ideal) S1x3x16x64x128 .f32)]) = dqOut x0 x1 x2 x3 x4 x5 (i 1).val := by
  funext y
  obtain ⟨a, b, t, j, k, rfl⟩ : ∃ a b t j k, y = ix5 a b t j k := ⟨y 0, y 1, y 2, y 3, y 4, by funext a; fin_cases a <;> rfl⟩
  obtain rfl : a = 0 := Subsingleton.elim _ _
  refine (rd3_dq _ _ _ _ _ _ _ _ b t j k).trans ?_
  fin_cases b
  · exact dq_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j k
  · exact dq_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j k
  · exact dq_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j k

/-- The gradient of the head weights of a point, after its three stores. -/
theorem dw_out (f : arg11.view.ty.Contents (Elt Ideal)) :
    arg11.view.read (Elt Ideal) (arg11.view.writes (Elt Ideal) f [(⟨Rect.unit (s := S1x3x16x64) ![0, 2, 0, 0] S1x1x16x64.size inb_S1x3x16x64_S1x1x16x64_0_2_0_0, kernelRun0_B.sl.r_184 c i arg2 harg2 arg3 harg3 arg4 harg4 arg5 harg5 arg6 harg6 arg7 harg7 arg12 x0 x1 x2 x3 x4 x5⟩ : View.Piece (Elt Ideal) S1x3x16x64 .f32), (⟨Rect.unit (s := S1x3x16x64) ![0, 1, 0, 0] S1x1x16x64.size inb_S1x3x16x64_S1x1x16x64_0_1_0_0, k0_pay252 (kernelRun0_B.sl.r_68 c arg3 harg3 x1) (kernelRun0_B.sl.r_92 c i arg2 harg2 arg3 harg3 arg4 harg4 arg5 harg5 arg6 harg6 arg7 harg7 arg12 x0 x1 x2 x3 x4 x5) (kernelRun0_B.sl.r_94 c i arg2 harg2 arg3 harg3 arg4 harg4 arg5 harg5 arg6 harg6 arg7 harg7 arg12 x0 x1 x2 x3 x4 x5) (kernelRun0_B.sl.r_95 c i arg2 harg2 arg3 harg3 arg4 harg4 arg5 harg5 arg6 harg6 arg7 harg7 arg12 x0 x1 x2 x3 x4 x5) (kernelRun0_B.sl.r_98 c i arg2 harg2 arg3 harg3 arg4 harg4 arg5 harg5 arg6 harg6 arg7 harg7 arg12 x0 x1 x2 x3 x4 x5) (kernelRun0_B.sl.r_100 c i arg2 harg2 arg3 harg3 arg4 harg4 arg5 harg5 arg6 harg6 arg7 harg7 arg12 x0 x1 x2 x3 x4 x5) (kernelRun0_B.sl.r_101 c i arg2 harg2 arg3 harg3 arg4 harg4 arg5 harg5 arg6 harg6 arg7 harg7 arg12 x0 x1 x2 x3 x4 x5) (kernelRun0_B.sl.r_105 c i arg2 harg2 arg3 harg3 arg4 harg4 arg5 harg5 arg6 harg6 arg7 harg7 arg12 x0 x1 x2 x3 x4 x5) (kernelRun0_B.sl.r_107 c i arg2 harg2 arg3 harg3 arg4 harg4 arg5 harg5 arg6 harg6 arg7 harg7 arg12 x0 x1 x2 x3 x4 x5) (kernelRun0_B.sl.r_109 c i arg2 harg2 arg3 harg3 arg4 harg4 arg5 harg5 arg6 harg6 arg7 harg7 arg12 x0 x1 x2 x3 x4 x5) (kernelRun0_B.sl.r_111 c i arg2 harg2 arg3 harg3 arg4 harg4 arg5 harg5 arg6 harg6 arg7 harg7 arg12 x0 x1 x2 x3 x4 x5) (kernelRun0_B.sl.r_114 c i arg2 harg2 arg3 harg3 arg4 harg4 arg5 harg5 arg6 harg6 arg7 harg7 arg12 x0 x1 x2 x3 x4 x5) (kernelRun0_B.sl.r_116 c i arg2 harg2 arg3 harg3 arg4 harg4 arg5 harg5 arg6 harg6 arg7 harg7 arg12 x0 x1 x2 x3 x4 x5) (kernelRun0_B.sl.r_117 c i arg2 harg2 arg3 harg3 arg4 harg4 arg5 harg5 arg6 harg6 arg7 harg7 arg12 x0 x1 x2 x3 x4 x5) (kernelRun0_B.sl.r_121 c i arg2 harg2 arg3 harg3 arg4 harg4 arg5 harg5 arg6 harg6 arg7 harg7 arg12 x0 x1 x2 x3 x4 x5) (kernelRun0_B.sl.r_124 c i arg2 harg2 arg3 harg3 arg4 harg4 arg5 harg5 arg6 harg6 arg7 harg7 arg12 x0 x1 x2 x3 x4 x5) (kernelRun0_B.sl.r_125 c i arg2 harg2 arg3 harg3 arg4 harg4 arg5 harg5 arg6 harg6 arg7 harg7 arg12 x0 x1 x2 x3 x4 x5)⟩ : View.Piece (Elt Ideal) S1x3x16x64 .f32), (⟨Rect.unit (s := S1x3x16x64) ![0, 0, 0, 0] S1x1x16x64.size inb_S1x3x16x64_S1x1x16x64_0_0_0_0, k0_pay130 (kernelRun0_B.sl.r_5 c arg3 harg3 x1) (kernelRun0_B.sl.r_28 c i arg2 harg2 arg3 harg3 arg4 harg4 arg5 harg5 arg6 harg6 arg7 harg7 arg12 x0 x1 x2 x3 x4 x5) (kernelRun0_B.sl.r_32 c i arg2 harg2 arg3 harg3 arg4 harg4 arg5 harg5 arg6 harg6 arg7 harg7 arg12 x0 x1 x2 x3 x4 x5) (kernelRun0_B.sl.r_35 c i arg2 harg2 arg3 harg3 arg4 harg4 arg5 harg5 arg6 harg6 arg7 harg7 arg12 x0 x1 x2 x3 x4 x5) (kernelRun0_B.sl.r_36 c i arg2 harg2 arg3 harg3 arg4 harg4 arg5 harg5 arg6 harg6 arg7 harg7 arg12 x0 x1 x2 x3 x4 x5) (kernelRun0_B.sl.r_39 c i arg2 harg2 arg3 harg3 arg4 harg4 arg5 harg5 arg6 harg6 arg7 harg7 arg12 x0 x1 x2 x3 x4 x5) (kernelRun0_B.sl.r_42 c i arg2 harg2 arg3 harg3 arg4 harg4 arg5 harg5 arg6 harg6 arg7 harg7 arg12 x0 x1 x2 x3 x4 x5) (kernelRun0_B.sl.r_43 c i arg2 harg2 arg3 harg3 arg4 harg4 arg5 harg5 arg6 harg6 arg7 harg7 arg12 x0 x1 x2 x3 x4 x5) (kernelRun0_B.sl.r_46 c i arg2 harg2 arg3 harg3 arg4 harg4 arg5 harg5 arg6 harg6 arg7 harg7 arg12 x0 x1 x2 x3 x4 x5) (kernelRun0_B.sl.r_47 c i arg2 harg2 arg3 harg3 arg4 harg4 arg5 harg5 arg6 harg6 arg7 harg7 arg12 x0 x1 x2 x3 x4 x5) (kernelRun0_B.sl.r_48 c i arg2 harg2 arg3 harg3 arg4 harg4 arg5 harg5 arg6 harg6 arg7 harg7 arg12 x0 x1 x2 x3 x4 x5) (kernelRun0_B.sl.r_51 c i arg2 harg2 arg3 harg3 arg4 harg4 arg5 harg5 arg6 harg6 arg7 harg7 arg12 x0 x1 x2 x3 x4 x5) (kernelRun0_B.sl.r_53 c i arg2 harg2 arg3 harg3 arg4 harg4 arg5 harg5 arg6 harg6 arg7 harg7 arg12 x0 x1 x2 x3 x4 x5) (kernelRun0_B.sl.r_54 c i arg2 harg2 arg3 harg3 arg4 harg4 arg5 harg5 arg6 harg6 arg7 harg7 arg12 x0 x1 x2 x3 x4 x5) (kernelRun0_B.sl.r_57 c i arg2 harg2 arg3 harg3 arg4 harg4 arg5 harg5 arg6 harg6 arg7 harg7 arg12 x0 x1 x2 x3 x4 x5) (kernelRun0_B.sl.r_59 c i arg2 harg2 arg3 harg3 arg4 harg4 arg5 harg5 arg6 harg6 arg7 harg7 arg12 x0 x1 x2 x3 x4 x5) (kernelRun0_B.sl.r_60 c i arg2 harg2 arg3 harg3 arg4 harg4 arg5 harg5 arg6 harg6 arg7 harg7 arg12 x0 x1 x2 x3 x4 x5)⟩ : View.Piece (Elt Ideal) S1x3x16x64 .f32)]) = dwOut x0 x1 x2 x3 x4 x5 (i 1).val := by
  funext y
  obtain ⟨a, b, t, j, rfl⟩ : ∃ a b t j, y = ix4 a b t j := ⟨y 0, y 1, y 2, y 3, by funext a; fin_cases a <;> rfl⟩
  obtain rfl : a = 0 := Subsingleton.elim _ _
  refine (rd3_dw _ _ _ _ _ _ _ _ b t j).trans ?_
  fin_cases b
  · exact dw_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  · exact dw_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j
  · exact dw_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 t j

/-- The divergences' accumulator, after a point's three stores. -/
theorem kl_out (f : arg15.view.ty.Contents (Elt Ideal)) (r : Fin 384) (l : Fin 128) :
    arg15.view.read (Elt Ideal) (arg15.view.writes (Elt Ideal) f [(⟨Rect.unit (s := S384x128) (k0_off1 i 256#32) S16x128.size (k0_off1_inb i 2), k0_pay276 (BitVec.ofNat 32 ↑(i 1)) (kernelRun0_B.sl.r_143 c arg2 harg2 arg3 harg3 arg4 harg4 arg5 harg5 arg12 x0 x1 x2 x3) (kernelRun0_B.sl.r_144 c arg6 harg6 x4) (View.readAt (Elt Ideal) arg7.view (Rect.unit (s := S1x3x16x384) ![0, 2, 0, 0] S1x1x16x384.size inb_S1x3x16x384_S1x1x16x384_0_2_0_0).toLoadRect (harg7.unread x5))⟩ : View.Piece (Elt Ideal) S384x128 .f32), (⟨Rect.unit (s := S384x128) (k0_off1 i 128#32) S16x128.size (k0_off1_inb i 1), k0_pay159 (kernelRun0_B.sl.r_89 c i arg2 harg2 arg3 harg3 arg4 harg4 arg5 harg5 arg6 harg6 arg7 harg7 arg12 x0 x1 x2 x3 x4 x5)⟩ : View.Piece (Elt Ideal) S384x128 .f32), (⟨Rect.unit (s := S384x128) (k0_off1 i 0#32) S16x128.size (k0_off1_inb i 0), k0_pay35 (kernelRun0_B.sl.r_22 i) (kernelRun0_B.sl.r_23 c i arg2 harg2 arg3 harg3 arg4 harg4 arg5 harg5 arg6 harg6 arg12 x0 x1 x2 x3 x4) (kernelRun0_B.sl.r_24 c arg7 harg7 x5) (kernelRun0_B.sl.r_25 c i arg7 harg7 x5)⟩ : View.Piece (Elt Ideal) S384x128 .f32)]) (ix2 r l)
      = if r.val % 128 / 16 = (i 1).val then klOut x0 x1 x2 x3 x4 x5 (i 1).val r else arg15.view.read (Elt Ideal) f (ix2 r l) := by
  refine (rd3_kl _ _ (i 1).val (i 1).isLt _ _ _ _ _ _ ((off1_eq i 0).trans (by simp)) (off1_eq i 1) (off1_eq i 2) _ _ _ ⟨r.val / 128, by omega⟩ r l rfl).trans ?_
  refine if_congr Iff.rfl ?_ rfl
  have hb : ∀ b : Fin 3, (![k0_pay35 (kernelRun0_B.sl.r_22 i) (kernelRun0_B.sl.r_23 c i arg2 harg2 arg3 harg3 arg4 harg4 arg5 harg5 arg6 harg6 arg12 x0 x1 x2 x3 x4) (kernelRun0_B.sl.r_24 c arg7 harg7 x5) (kernelRun0_B.sl.r_25 c i arg7 harg7 x5), k0_pay159 (kernelRun0_B.sl.r_89 c i arg2 harg2 arg3 harg3 arg4 harg4 arg5 harg5 arg6 harg6 arg7 harg7 arg12 x0 x1 x2 x3 x4 x5), k0_pay276 (BitVec.ofNat 32 ↑(i 1)) (kernelRun0_B.sl.r_143 c arg2 harg2 arg3 harg3 arg4 harg4 arg5 harg5 arg12 x0 x1 x2 x3) (kernelRun0_B.sl.r_144 c arg6 harg6 x4) (View.readAt (Elt Ideal) arg7.view (Rect.unit (s := S1x3x16x384) ![0, 2, 0, 0] S1x1x16x384.size inb_S1x3x16x384_S1x1x16x384_0_2_0_0).toLoadRect (harg7.unread x5))] : Fin 3 → Vec Ideal ⟨2, ![16, 128]⟩ .f32) b (ix2 ⟨r.val % 16, by omega⟩ l) = (row x0 x1 x2 x3 x4 x5 (i 1).val b ⟨r.val % 16, by omega⟩).kl := by
    intro b
    fin_cases b
    · exact kl_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 ⟨r.val % 16, by omega⟩ l
    · exact kl_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 ⟨r.val % 16, by omega⟩ l
    · exact kl_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 ⟨r.val % 16, by omega⟩ l
  exact hb ⟨r.val / 128, by omega⟩

/-- The key accumulator after a point, whatever way its three loads read what was there before. -/
theorem dk_out (old : Vec Ideal S128x384 .f32) (OLD0 : Vec Ideal S128x128 .f32) (OLD1 : Vec Ideal S128x256 .f32) (OLD2 : Vec Ideal S128x384 .f32)
    (h0 : ∀ (k : Fin 128) (s : Fin 128), OLD0 (ix2 k s) = old (ix2 k (Fin.castLE (by omega) s)))
    (h1 : ∀ (k : Fin 128) (s : Fin 256), OLD1 (ix2 k s) = if h : s.val < 128 then (k0_pay133 OLD0 (kernelRun0_B.sl.r_65 c arg2 harg2 x0) (kernelRun0_B.sl.v654 c i arg2 harg2 arg3 harg3 arg4 harg4 arg5 harg5 arg6 harg6 arg7 harg7 arg12 arg14 x0 x1 x2 x3 x4 x5)) (ix2 k ⟨s.val, h⟩) else old (ix2 k (Fin.castLE (by omega) s)))
    (h2 : ∀ (k : Fin 128) (s : Fin 384), OLD2 (ix2 k s) = if h : s.val < 256 then (k0_pay254 (kernelRun0_B.sl.r_66 c arg2 harg2 x0) OLD1 (kernelRun0_B.sl.v1306 c i arg2 harg2 arg3 harg3 arg4 harg4 arg5 harg5 arg6 harg6 arg7 harg7 arg12 arg14 x0 x1 x2 x3 x4 x5)) (ix2 k ⟨s.val, h⟩) else old (ix2 k s)) :
    (k0_pay2 (kernelRun0_B.sl.r_128 c arg2 harg2 x0) OLD2 (kernelRun0_B.sl.v1954 c i arg2 harg2 arg3 harg3 arg4 harg4 arg5 harg5 arg6 harg6 arg7 harg7 arg12 arg14 x0 x1 x2 x3 x4 x5)) = dkStep x0 x1 x2 x3 x4 x5 (i 1).val old := by
  funext y
  obtain ⟨k, s, rfl⟩ : ∃ k s, y = ix2 k s := ⟨y 0, y 1, by funext a; fin_cases a <;> rfl⟩
  refine (dkk_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 OLD2 k s).trans ?_
  have hs := s.isLt
  show _ = old (ix2 k s) + ∑ b : Fin 3, if s.val < 128 * (b.val + 1) then ∑ t : Fin 16, (row x0 x1 x2 x3 x4 x5 (i 1).val b t).dk s k else 0
  rw [Fin.sum_univ_three, h2]
  simp only [Fin.isValue, Fin.val_zero, Fin.val_one, Fin.val_two]
  rw [if_pos (show s.val < 128 * (2 + 1) by omega), ← add_assoc, ← add_assoc]
  refine congrArg₂ (· + ·) ?_ rfl
  by_cases a2 : s.val < 256
  · rw [dif_pos a2, if_pos (show s.val < 128 * (1 + 1) by omega)]
    refine (dkk_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 OLD1 k ⟨s.val, a2⟩).trans ?_
    refine congrArg₂ (· + ·) ?_ rfl
    rw [h1]
    by_cases a1 : s.val < 128
    · rw [dif_pos a1, if_pos (show s.val < 128 * (0 + 1) by omega)]
      refine (dkk_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 OLD0 k ⟨s.val, a1⟩).trans ?_
      rw [h0]; rfl
    · rw [dif_neg a1, if_neg (show ¬ s.val < 128 * (0 + 1) by omega), add_zero]; rfl
  · rw [dif_neg a2, if_neg (show ¬ s.val < 128 * (1 + 1) by omega), if_neg (show ¬ s.val < 128 * (0 + 1) by omega), add_zero, add_zero]

end Cert.KernelIdeal.Hand
-- ==== Proof.Val.Cell.lean ====
/- WHAT EACH KIND OF GRID POINT LEAVES: `Out.lean` said of the stores the run of the body finds at the first, a middle and the last query tile. -/
module

public import proofs.«01_k».proof.Proof.Val.Out
public import proofs.«01_k».proof.Proof.Run.A
public import proofs.«01_k».proof.Proof.Run.C

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- What the first query tile fills the key accumulator with. -/
theorem pay10_zero (y : S128x384.Idx) : (k0_pay10 : FVec Ideal S128x384 .f32) y = 0 := by
  pointwise [k0_pay10]

/-- The key gradient's result is the accumulator with its two axes exchanged. -/
theorem pay3_apply (x : Vec Ideal S128x384 .f32) (s : Fin 384) (k : Fin 128) : k0_pay3 (F := Ideal) x (ix3 0 s k) = x (ix2 k s) := by
  pointwise [k0_pay3]

/-- Each store of the divergences' result takes column 0 of 128 rows of the accumulator. -/
theorem pay4_apply (x : Vec Ideal S128x128 .f32) (s : Fin 128) : k0_pay4 (F := Ideal) x (ix3 0 0 s) = x (ix2 s 0) := by
  pointwise [k0_pay4]

theorem pay5_apply (x : Vec Ideal S128x128 .f32) (s : Fin 128) : k0_pay5 (F := Ideal) x (ix3 0 0 s) = x (ix2 s 0) := by
  pointwise [k0_pay5]

theorem pay6_apply (x : Vec Ideal S128x128 .f32) (s : Fin 128) : k0_pay6 (F := Ideal) x (ix3 0 0 s) = x (ix2 s 0) := by
  pointwise [k0_pay6]

/-- The divergences' result after three stores that hold `g` of the tokens they cover. -/
theorem rd3_fn {sg : RefSig} {κ : Kind} {sp : Space} (v : View sg κ sp S1x1x384 .f32) (f : v.ty.Contents (Elt Ideal)) (P0 P1 P2 : Vec Ideal ⟨3, ![1, 1, 128]⟩ .f32)
    (i0 : ∀ a, (![0, 0, 0] : Fin 3 → ℕ) a + (![1, 1, 128] : Fin 3 → ℕ) a ≤ S1x1x384.size a)
    (i1 : ∀ a, (![0, 0, 128] : Fin 3 → ℕ) a + (![1, 1, 128] : Fin 3 → ℕ) a ≤ S1x1x384.size a)
    (i2 : ∀ a, (![0, 0, 256] : Fin 3 → ℕ) a + (![1, 1, 128] : Fin 3 → ℕ) a ≤ S1x1x384.size a) (g : Fin 384 → EReal)
    (h0 : ∀ s : Fin 128, P0 (ix3 0 0 s) = g ⟨s.val, by omega⟩) (h1 : ∀ s : Fin 128, P1 (ix3 0 0 s) = g ⟨128 + s.val, by omega⟩)
    (h2 : ∀ s : Fin 128, P2 (ix3 0 0 s) = g ⟨256 + s.val, by omega⟩) (r : Fin 384) :
    v.read (Elt Ideal) (v.writes (Elt Ideal) f [(⟨Rect.unit (s := S1x1x384) ![0, 0, 256] ![1, 1, 128] i2, P2⟩ : View.Piece (Elt Ideal) S1x1x384 .f32),
        (⟨Rect.unit (s := S1x1x384) ![0, 0, 128] ![1, 1, 128] i1, P1⟩ : View.Piece (Elt Ideal) S1x1x384 .f32),
        (⟨Rect.unit (s := S1x1x384) ![0, 0, 0] ![1, 1, 128] i0, P0⟩ : View.Piece (Elt Ideal) S1x1x384 .f32)]) (ix3 0 0 r) = g r := by
  have hr := r.isLt
  rcases (by omega : r.val / 128 = 0 ∨ r.val / 128 = 1 ∨ r.val / 128 = 2) with h | h | h
  · refine (rd3_row v f P0 P1 P2 i0 i1 i2 0 ⟨r.val % 128, by omega⟩ r (by simp; omega)).trans ((h0 _).trans (congrArg g (Fin.ext ?_)))
    show r.val % 128 = r.val; omega
  · refine (rd3_row v f P0 P1 P2 i0 i1 i2 1 ⟨r.val % 128, by omega⟩ r (by simp; omega)).trans ((h1 _).trans (congrArg g (Fin.ext ?_)))
    show 128 + r.val % 128 = r.val; omega
  · refine (rd3_row v f P0 P1 P2 i0 i1 i2 2 ⟨r.val % 128, by omega⟩ r (by simp; omega)).trans ((h2 _).trans (congrArg g (Fin.ext ?_)))
    show 256 + r.val % 128 = r.val; omega

variable (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole)
variable (x0 : Vec Ideal S1x3x16x64x128 .fp8e4m3) (x1 : Vec Ideal S1x3x16x64 .f32) (x2 : Vec Ideal S1x3x16x64 .bf16) (x3 : Vec Ideal S1x384x128 .fp8e4m3) (x4 : Vec Ideal S1x1x384 .f32) (x5 : Vec Ideal S1x3x16x384 .f32) (xs4 : Vec Ideal S128x384 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4

/-- The key accumulator after the three stores of a point, from contents that read as `old`. -/
theorem dk_cell (f : arg16.view.ty.Contents (Elt Ideal)) (L0 : List (View.Piece (Elt Ideal) S128x384 .f32))
    (h : ∀ (k : Fin 128) (s : Fin 384), arg16.view.read (Elt Ideal) (arg16.view.writes (Elt Ideal) f L0) (ix2 k s) = xs4 (ix2 k s)) (g : arg16.view.ty.Contents (Elt Ideal)) :
    arg16.view.read (Elt Ideal) (arg16.view.writes (Elt Ideal) g ((⟨Rect.unit (s := S128x384) ![0, 0] ![128, 384] inb_S128x384_S128x384_0_0, k0_pay2 (kernelRun0_B.sl.r_128 c arg2 harg2 x0) (View.readAt (Elt Ideal) arg16.view (Rect.unit (s := S128x384) ![0, 0] ![128, 384] inb_S128x384_S128x384_0_0).toLoadRect (arg16.view.writes (Elt Ideal) f ((⟨Rect.unit (s := S128x384) ![0, 0] S128x256.size inb_S128x384_S128x256_0_0, k0_pay254 (kernelRun0_B.sl.r_66 c arg2 harg2 x0) (View.readAt (Elt Ideal) arg16.view (Rect.unit (s := S128x384) ![0, 0] S128x256.size inb_S128x384_S128x256_0_0).toLoadRect (arg16.view.writes (Elt Ideal) f ((⟨Rect.unit (s := S128x384) ![0, 0] S128x128.size inb_S128x384_S128x128_0_0, k0_pay133 (View.readAt (Elt Ideal) arg16.view (Rect.unit (s := S128x384) ![0, 0] S128x128.size inb_S128x384_S128x128_0_0).toLoadRect (arg16.view.writes (Elt Ideal) f (L0))) (kernelRun0_B.sl.r_65 c arg2 harg2 x0) (kernelRun0_B.sl.v654 c i arg2 harg2 arg3 harg3 arg4 harg4 arg5 harg5 arg6 harg6 arg7 harg7 arg12 arg14 x0 x1 x2 x3 x4 x5)⟩ : View.Piece (Elt Ideal) S128x384 .f32) :: L0))) (kernelRun0_B.sl.v1306 c i arg2 harg2 arg3 harg3 arg4 harg4 arg5 harg5 arg6 harg6 arg7 harg7 arg12 arg14 x0 x1 x2 x3 x4 x5)⟩ : View.Piece (Elt Ideal) S128x384 .f32) :: (⟨Rect.unit (s := S128x384) ![0, 0] S128x128.size inb_S128x384_S128x128_0_0, k0_pay133 (View.readAt (Elt Ideal) arg16.view (Rect.unit (s := S128x384) ![0, 0] S128x128.size inb_S128x384_S128x128_0_0).toLoadRect (arg16.view.writes (Elt Ideal) f (L0))) (kernelRun0_B.sl.r_65 c arg2 harg2 x0) (kernelRun0_B.sl.v654 c i arg2 harg2 arg3 harg3 arg4 harg4 arg5 harg5 arg6 harg6 arg7 harg7 arg12 arg14 x0 x1 x2 x3 x4 x5)⟩ : View.Piece (Elt Ideal) S128x384 .f32) :: L0))) (kernelRun0_B.sl.v1954 c i arg2 harg2 arg3 harg3 arg4 harg4 arg5 harg5 arg6 harg6 arg7 harg7 arg12 arg14 x0 x1 x2 x3 x4 x5)⟩ : View.Piece (Elt Ideal) S128x384 .f32) :: (⟨Rect.unit (s := S128x384) ![0, 0] S128x256.size inb_S128x384_S128x256_0_0, k0_pay254 (kernelRun0_B.sl.r_66 c arg2 harg2 x0) (View.readAt (Elt Ideal) arg16.view (Rect.unit (s := S128x384) ![0, 0] S128x256.size inb_S128x384_S128x256_0_0).toLoadRect (arg16.view.writes (Elt Ideal) f ((⟨Rect.unit (s := S128x384) ![0, 0] S128x128.size inb_S128x384_S128x128_0_0, k0_pay133 (View.readAt (Elt Ideal) arg16.view (Rect.unit (s := S128x384) ![0, 0] S128x128.size inb_S128x384_S128x128_0_0).toLoadRect (arg16.view.writes (Elt Ideal) f (L0))) (kernelRun0_B.sl.r_65 c arg2 harg2 x0) (kernelRun0_B.sl.v654 c i arg2 harg2 arg3 harg3 arg4 harg4 arg5 harg5 arg6 harg6 arg7 harg7 arg12 arg14 x0 x1 x2 x3 x4 x5)⟩ : View.Piece (Elt Ideal) S128x384 .f32) :: L0))) (kernelRun0_B.sl.v1306 c i arg2 harg2 arg3 harg3 arg4 harg4 arg5 harg5 arg6 harg6 arg7 harg7 arg12 arg14 x0 x1 x2 x3 x4 x5)⟩ : View.Piece (Elt Ideal) S128x384 .f32) :: (⟨Rect.unit (s := S128x384) ![0, 0] S128x128.size inb_S128x384_S128x128_0_0, k0_pay133 (View.readAt (Elt Ideal) arg16.view (Rect.unit (s := S128x384) ![0, 0] S128x128.size inb_S128x384_S128x128_0_0).toLoadRect (arg16.view.writes (Elt Ideal) f (L0))) (kernelRun0_B.sl.r_65 c arg2 harg2 x0) (kernelRun0_B.sl.v654 c i arg2 harg2 arg3 harg3 arg4 harg4 arg5 harg5 arg6 harg6 arg7 harg7 arg12 arg14 x0 x1 x2 x3 x4 x5)⟩ : View.Piece (Elt Ideal) S128x384 .f32) :: L0)) = dkStep x0 x1 x2 x3 x4 x5 (i 1).val xs4 := by
  funext y
  obtain ⟨k, s, rfl⟩ : ∃ k s, y = ix2 k s := ⟨y 0, y 1, by funext a; fin_cases a <;> rfl⟩
  refine (rd_acc (M := 384) _ _ _ _ _ k s).trans ((dif_pos s.isLt).trans ?_)
  refine congrFun (dk_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 xs4 (View.readAt (Elt Ideal) arg16.view (Rect.unit (s := S128x384) ![0, 0] S128x128.size inb_S128x384_S128x128_0_0).toLoadRect (arg16.view.writes (Elt Ideal) f (L0))) (View.readAt (Elt Ideal) arg16.view (Rect.unit (s := S128x384) ![0, 0] S128x256.size inb_S128x384_S128x256_0_0).toLoadRect (arg16.view.writes (Elt Ideal) f ((⟨Rect.unit (s := S128x384) ![0, 0] S128x128.size inb_S128x384_S128x128_0_0, k0_pay133 (View.readAt (Elt Ideal) arg16.view (Rect.unit (s := S128x384) ![0, 0] S128x128.size inb_S128x384_S128x128_0_0).toLoadRect (arg16.view.writes (Elt Ideal) f (L0))) (kernelRun0_B.sl.r_65 c arg2 harg2 x0) (kernelRun0_B.sl.v654 c i arg2 harg2 arg3 harg3 arg4 harg4 arg5 harg5 arg6 harg6 arg7 harg7 arg12 arg14 x0 x1 x2 x3 x4 x5)⟩ : View.Piece (Elt Ideal) S128x384 .f32) :: L0))) (View.readAt (Elt Ideal) arg16.view (Rect.unit (s := S128x384) ![0, 0] ![128, 384] inb_S128x384_S128x384_0_0).toLoadRect (arg16.view.writes (Elt Ideal) f ((⟨Rect.unit (s := S128x384) ![0, 0] S128x256.size inb_S128x384_S128x256_0_0, k0_pay254 (kernelRun0_B.sl.r_66 c arg2 harg2 x0) (View.readAt (Elt Ideal) arg16.view (Rect.unit (s := S128x384) ![0, 0] S128x256.size inb_S128x384_S128x256_0_0).toLoadRect (arg16.view.writes (Elt Ideal) f ((⟨Rect.unit (s := S128x384) ![0, 0] S128x128.size inb_S128x384_S128x128_0_0, k0_pay133 (View.readAt (Elt Ideal) arg16.view (Rect.unit (s := S128x384) ![0, 0] S128x128.size inb_S128x384_S128x128_0_0).toLoadRect (arg16.view.writes (Elt Ideal) f (L0))) (kernelRun0_B.sl.r_65 c arg2 harg2 x0) (kernelRun0_B.sl.v654 c i arg2 harg2 arg3 harg3 arg4 harg4 arg5 harg5 arg6 harg6 arg7 harg7 arg12 arg14 x0 x1 x2 x3 x4 x5)⟩ : View.Piece (Elt Ideal) S128x384 .f32) :: L0))) (kernelRun0_B.sl.v1306 c i arg2 harg2 arg3 harg3 arg4 harg4 arg5 harg5 arg6 harg6 arg7 harg7 arg12 arg14 x0 x1 x2 x3 x4 x5)⟩ : View.Piece (Elt Ideal) S128x384 .f32) :: (⟨Rect.unit (s := S128x384) ![0, 0] S128x128.size inb_S128x384_S128x128_0_0, k0_pay133 (View.readAt (Elt Ideal) arg16.view (Rect.unit (s := S128x384) ![0, 0] S128x128.size inb_S128x384_S128x128_0_0).toLoadRect (arg16.view.writes (Elt Ideal) f (L0))) (kernelRun0_B.sl.r_65 c arg2 harg2 x0) (kernelRun0_B.sl.v654 c i arg2 harg2 arg3 harg3 arg4 harg4 arg5 harg5 arg6 harg6 arg7 harg7 arg12 arg14 x0 x1 x2 x3 x4 x5)⟩ : View.Piece (Elt Ideal) S128x384 .f32) :: L0))) ?_ ?_ ?_) _
  · exact fun k s => (ld_acc (N := 128) (by omega) _ _ _ k s).trans (h k _)
  · exact fun k s => (ld_acc (N := 256) (by omega) _ _ _ k s).trans ((rd_acc (M := 128) _ _ _ _ _ k _).trans (dite_congr rfl (fun _ => rfl) fun _ => h k _))
  · exact fun k s => (ld_acc (N := 384) (by omega) _ _ _ k s).trans ((rd_acc (M := 256) _ _ _ _ _ k _).trans (dite_congr rfl (fun _ => rfl) fun hs =>
      (rd_acc (M := 128) _ _ _ _ _ k _).trans ((dif_neg (fun hs' => hs (lt_trans hs' (by omega)))).trans (h k _))))

end Cert.KernelIdeal.Hand

end
-- ==== Proof.Val.Case.lean ====
/- WHAT EACH KIND OF GRID POINT LEAVES: `Out.lean` and `Cell.lean` said of the stores the run of the body finds at the first, a middle and the last query
   tile. -/
module

public import proofs.«01_k».proof.Proof.Val.Cell
public import proofs.«01_k».proof.Proof.Run.A
public import proofs.«01_k».proof.Proof.Run.C

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (c : Dev nD) (i : grid0.Coords) (arg2 : Memref sig .tc .vmem S1x3x16x64x128 .fp8e4m3) (harg2 : arg2.IsWhole) (arg3 : Memref sig .tc .vmem S1x3x16x64 .f32) (harg3 : arg3.IsWhole) (arg4 : Memref sig .tc .vmem S1x3x16x64 .bf16) (harg4 : arg4.IsWhole) (arg5 : Memref sig .tc .vmem S1x384x128 .fp8e4m3) (harg5 : arg5.IsWhole) (arg6 : Memref sig .tc .vmem S1x1x384 .f32) (harg6 : arg6.IsWhole) (arg7 : Memref sig .tc .vmem S1x3x16x384 .f32) (harg7 : arg7.IsWhole) (arg8 : Memref sig .tc .vmem S1x1x384 .f32) (harg8 : arg8.IsWhole) (arg9 : Memref sig .tc .vmem S1x3x16x64x128 .f32) (harg9 : arg9.IsWhole) (arg10 : Memref sig .tc .vmem S1x384x128 .f32) (harg10 : arg10.IsWhole) (arg11 : Memref sig .tc .vmem S1x3x16x64 .f32) (harg11 : arg11.IsWhole) (arg12 : Memref sig .tc .vmem S1024x384 .f32) (harg12 : arg12.IsWhole) (arg13 : Memref sig .tc .vmem S1024x384 .bf16) (harg13 : arg13.IsWhole) (arg14 : Memref sig .tc .vmem S1024x384 .bf16) (harg14 : arg14.IsWhole) (arg15 : Memref sig .tc .vmem S384x128 .f32) (harg15 : arg15.IsWhole) (arg16 : Memref sig .tc .vmem S128x384 .f32) (harg16 : arg16.IsWhole)
variable (x0 : Vec Ideal S1x3x16x64x128 .fp8e4m3) (x1 : Vec Ideal S1x3x16x64 .f32) (x2 : Vec Ideal S1x3x16x64 .bf16) (x3 : Vec Ideal S1x384x128 .fp8e4m3) (x4 : Vec Ideal S1x1x384 .f32) (x5 : Vec Ideal S1x3x16x384 .f32) (xs4 : Vec Ideal S128x384 .f32)

section First

/-- The query gradient after a first query tile. -/
theorem dq_A (hc0 : cond0_0 i) (hc1 : ¬cond0_1 i) (f : arg9.view.ty.Contents (Elt Ideal)) :
    arg9.view.read (Elt Ideal) (arg9.view.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1) = dqOut x0 x1 x2 x3 x4 x5 (i 1).val := dq_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (fun _ => 0) f

/-- The gradient of the head weights after a first query tile. -/
theorem dw_A (hc0 : cond0_0 i) (hc1 : ¬cond0_1 i) (f : arg11.view.ty.Contents (Elt Ideal)) :
    arg11.view.read (Elt Ideal) (arg11.view.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1) = dwOut x0 x1 x2 x3 x4 x5 (i 1).val := dw_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (fun _ => 0) f

/-- The divergences' accumulator after a first query tile. -/
theorem kl_A (hc0 : cond0_0 i) (hc1 : ¬cond0_1 i) (f : arg15.view.ty.Contents (Elt Ideal)) (r : Fin 384) (l : Fin 128) :
    arg15.view.read (Elt Ideal) (arg15.view.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.1) (ix2 r l)
      = if r.val % 128 / 16 = (i 1).val then klOut x0 x1 x2 x3 x4 x5 (i 1).val r else arg15.view.read (Elt Ideal) f (ix2 r l) := kl_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (fun _ => 0) f r l

/-- The key accumulator after a first query tile. -/
theorem dk_A (hc0 : cond0_0 i) (hc1 : ¬cond0_1 i) (f : arg16.view.ty.Contents (Elt Ideal)) :
    arg16.view.read (Elt Ideal) (arg16.view.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.2.2.1) = dkStep x0 x1 x2 x3 x4 x5 (i 1).val (fun _ => 0) :=
  dk_cell c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (fun _ => 0) (arg16.view.junk) kernelRun0_A.sl.HS4_1 (fun k s => (rd_acc (M := 384) _ _ _ _ _ k s).trans ((dif_pos s.isLt).trans (pay10_zero _))) f

end First

section Middle

/-- The query gradient after a middle query tile. -/
theorem dq_B (hc0 : ¬cond0_0 i) (hc1 : ¬cond0_1 i) (f : arg9.view.ty.Contents (Elt Ideal)) :
    arg9.view.read (Elt Ideal) (arg9.view.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs4).2.1) = dqOut x0 x1 x2 x3 x4 x5 (i 1).val := dq_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 f

/-- The gradient of the head weights after a middle query tile. -/
theorem dw_B (hc0 : ¬cond0_0 i) (hc1 : ¬cond0_1 i) (f : arg11.view.ty.Contents (Elt Ideal)) :
    arg11.view.read (Elt Ideal) (arg11.view.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs4).2.2.2.1) = dwOut x0 x1 x2 x3 x4 x5 (i 1).val := dw_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 f

/-- The divergences' accumulator after a middle query tile. -/
theorem kl_B (hc0 : ¬cond0_0 i) (hc1 : ¬cond0_1 i) (f : arg15.view.ty.Contents (Elt Ideal)) (r : Fin 384) (l : Fin 128) :
    arg15.view.read (Elt Ideal) (arg15.view.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs4).2.2.2.2.1) (ix2 r l)
      = if r.val % 128 / 16 = (i 1).val then klOut x0 x1 x2 x3 x4 x5 (i 1).val r else arg15.view.read (Elt Ideal) f (ix2 r l) := kl_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 f r l

/-- The key accumulator after a middle query tile. -/
theorem dk_B (hc0 : ¬cond0_0 i) (hc1 : ¬cond0_1 i) (f : arg16.view.ty.Contents (Elt Ideal)) :
    arg16.view.read (Elt Ideal) (arg16.view.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs4).2.2.2.2.2.1) = dkStep x0 x1 x2 x3 x4 x5 (i 1).val xs4 :=
  dk_cell c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 (harg16.unread xs4) [] (fun k s => congrFun (harg16.read_unread xs4) _) f

end Middle

section Last

variable (xs3 : Vec Ideal S384x128 .f32)

/-- The query gradient after a last query tile. -/
theorem dq_C (hc0 : ¬cond0_0 i) (hc1 : cond0_1 i) (f : arg9.view.ty.Contents (Elt Ideal)) :
    arg9.view.read (Elt Ideal) (arg9.view.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).2.1) = dqOut x0 x1 x2 x3 x4 x5 (i 1).val := dq_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 f

/-- The gradient of the head weights after a last query tile. -/
theorem dw_C (hc0 : ¬cond0_0 i) (hc1 : cond0_1 i) (f : arg11.view.ty.Contents (Elt Ideal)) :
    arg11.view.read (Elt Ideal) (arg11.view.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).2.2.2.1) = dwOut x0 x1 x2 x3 x4 x5 (i 1).val := dw_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 f

/-- The divergences' accumulator after a last query tile. -/
theorem kl_C (hc0 : ¬cond0_0 i) (hc1 : cond0_1 i) (f : arg15.view.ty.Contents (Elt Ideal)) (r : Fin 384) (l : Fin 128) :
    arg15.view.read (Elt Ideal) (arg15.view.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).2.2.2.2.1) (ix2 r l)
      = if r.val % 128 / 16 = (i 1).val then klOut x0 x1 x2 x3 x4 x5 (i 1).val r else arg15.view.read (Elt Ideal) f (ix2 r l) := kl_out c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 f r l

/-- The key accumulator after a last query tile. -/
theorem dk_C (hc0 : ¬cond0_0 i) (hc1 : cond0_1 i) (f : arg16.view.ty.Contents (Elt Ideal)) :
    arg16.view.read (Elt Ideal) (arg16.view.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).2.2.2.2.2.1) = dkStep x0 x1 x2 x3 x4 x5 (i 1).val xs4 :=
  dk_cell c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 (harg16.unread xs4) [] (fun k s => congrFun (harg16.read_unread xs4) _) f

/-- The divergences' result, stored at the last query tile: column 0 of the accumulator. -/
theorem kl6_C (hc0 : ¬cond0_0 i) (hc1 : cond0_1 i) (f : arg8.view.ty.Contents (Elt Ideal)) (r : Fin 384) :
    arg8.view.read (Elt Ideal) (arg8.view.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).1) (ix3 0 0 r)
      = arg15.view.read (Elt Ideal) (arg15.view.writes (Elt Ideal) (harg15.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).2.2.2.2.1) (ix2 r 0) := by
  refine rd3_fn _ _ _ _ _ _ _ _ (fun r => arg15.view.read (Elt Ideal) (arg15.view.writes (Elt Ideal) (harg15.unread xs3) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).2.2.2.2.1) (ix2 r 0)) ?_ ?_ ?_ r
  · exact fun s => (pay4_apply _ _).trans (ld_kl _ _ 0 _ _ 0 _ (by simp))
  · exact fun s => (pay5_apply _ _).trans (ld_kl _ _ 128 _ _ 0 _ rfl)
  · exact fun s => (pay6_apply _ _).trans (ld_kl _ _ 256 _ _ 0 _ rfl)

/-- The key gradient's result, stored at the last query tile: the accumulator with its axes exchanged. -/
theorem dk8_C (hc0 : ¬cond0_0 i) (hc1 : cond0_1 i) (f : arg10.view.ty.Contents (Elt Ideal)) (s : Fin 384) (k : Fin 128) :
    arg10.view.read (Elt Ideal) (arg10.view.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs3 xs4).2.2.1) (ix3 0 s k) = dkStep x0 x1 x2 x3 x4 x5 (i 1).val xs4 (ix2 k s) := by
  have e : ∀ (P : Vec Ideal S1x384x128 .f32) (inb : ∀ a, (![0, 0, 0] : Fin 3 → ℕ) a + (![1, 384, 128] : Fin 3 → ℕ) a ≤ S1x384x128.size a),
      arg10.view.read (Elt Ideal) (arg10.view.writes (Elt Ideal) f [(⟨Rect.unit (s := S1x384x128) ![0, 0, 0] ![1, 384, 128] inb, P⟩ : View.Piece (Elt Ideal) S1x384x128 .f32)]) (ix3 0 s k) = P (ix3 0 s k) := by
    intro P inb
    refine View.read_writes_cons_unit_of_mem _ f inb P [] _ (ix3 0 s k) rfl fun a => ?_
    fin_cases a
    · rfl
    · show s.val = 0 + s.val; omega
    · show k.val = 0 + k.val; omega
  refine (e _ _).trans ((pay3_apply _ _ _).trans ((ld_acc (N := 384) (by omega) arg16.view _ _ k s).trans ?_))
  exact congrFun (dk_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 xs4 xs3 hc0 hc1 arg16.view.junk) (ix2 k s)

end Last

end Cert.KernelIdeal.Hand

end
-- ==== Proof.Val.Data.lean ====
/- THE PIPELINE'S PROOF DATA: what each window holds after each grid point, and what the two carried accumulators hold between points. -/
module

public import proofs.«01_k».proof.Proof.Val.Case
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Grid point number `n`. -/
def pt (n : ℕ) : Fin cfg0.N := ⟨n % 32, by rw [show cfg0.N = 32 from N_0]; omega⟩

theorem pt_val (t : Fin cfg0.N) : pt t.val = t := by
  apply Fin.ext
  have h : t.val < 32 := lt_of_lt_of_eq t.isLt (show cfg0.N = 32 from N_0)
  show t.val % 32 = t.val; omega

/-- The query tile of a grid point. -/
theorem coord1 (t : Fin cfg0.N) : (grid0.coords t 1).val = t.val % 8 := by
  have e : (grid0.coords t 1).val = t.val / 1 % 8 := Pipeline.Grid.coords_val t 1 (by decide) rfl
  omega

/-- The divergence of token `r` of batch element `q`, from the blocks of the grid point that computes it. -/
def klVal (c : Dev nD) (q : ℕ) (r : Fin 384) : EReal :=
  klOut (iblk m c 0 (pt (8 * q + r.val % 128 / 16))) (iblk m c 1 (pt (8 * q + r.val % 128 / 16))) (iblk m c 2 (pt (8 * q + r.val % 128 / 16))) (iblk m c 3 (pt (8 * q + r.val % 128 / 16))) (iblk m c 4 (pt (8 * q + r.val % 128 / 16))) (iblk m c 5 (pt (8 * q + r.val % 128 / 16))) (r.val % 128 / 16) r

/-- The key gradient's accumulator after grid point `n`: emptied at a first query tile, and the point's part added. -/
def dkAcc (c : Dev nD) : ℕ → Vec Ideal S128x384 .f32
  | 0 => dkStep (iblk m c 0 (pt 0)) (iblk m c 1 (pt 0)) (iblk m c 2 (pt 0)) (iblk m c 3 (pt 0)) (iblk m c 4 (pt 0)) (iblk m c 5 (pt 0)) 0 (fun _ => 0)
  | n + 1 => dkStep (iblk m c 0 (pt (n + 1))) (iblk m c 1 (pt (n + 1))) (iblk m c 2 (pt (n + 1))) (iblk m c 3 (pt (n + 1))) (iblk m c 4 (pt (n + 1))) (iblk m c 5 (pt (n + 1))) ((n + 1) % 8) (if (n + 1) % 8 = 0 then fun _ => 0 else dkAcc c n)

theorem dkAcc_first (c : Dev nD) (n : ℕ) (h : n % 8 = 0) : dkAcc m c n = dkStep (iblk m c 0 (pt n)) (iblk m c 1 (pt n)) (iblk m c 2 (pt n)) (iblk m c 3 (pt n)) (iblk m c 4 (pt n)) (iblk m c 5 (pt n)) (n % 8) (fun _ => 0) := by
  cases n with
  | zero => rfl
  | succ n => rw [dkAcc, if_pos h]

theorem dkAcc_later (c : Dev nD) (n : ℕ) (h : n % 8 ≠ 0) : dkAcc m c n = dkStep (iblk m c 0 (pt n)) (iblk m c 1 (pt n)) (iblk m c 2 (pt n)) (iblk m c 3 (pt n)) (iblk m c 4 (pt n)) (iblk m c 5 (pt n)) (n % 8) (dkAcc m c (n - 1)) := by
  cases n with
  | zero => exact absurd rfl h
  | succ n => rw [dkAcc, if_neg h]; rfl

/-- The divergences' accumulator after grid point `n`, as far as it is known: the rows of the query tiles up to `n`'s hold their tokens' divergences in every
    column (the other rows hold what an earlier batch element, or nothing yet, left). -/
def KlOk (c : Dev nD) (n : ℕ) (d : Vec Ideal S384x128 .f32) : Prop :=
  ∀ (r : Fin 384) (l : Fin 128), r.val % 128 / 16 ≤ n % 8 → d (ix2 r l) = klVal m c (n / 8) r

/-- A point's stores carry that on. -/
theorem KlOk_step (c : Dev nD) (t : Fin cfg0.N) (old new : Vec Ideal S384x128 .f32) (hold : t.val % 8 ≠ 0 → KlOk m c (t.val - 1) old)
    (hnew : ∀ (r : Fin 384) (l : Fin 128), new (ix2 r l) = if r.val % 128 / 16 = (grid0.coords t 1).val then klOut (iblk m c 0 t) (iblk m c 1 t) (iblk m c 2 t) (iblk m c 3 t) (iblk m c 4 t) (iblk m c 5 t) (grid0.coords t 1).val r else old (ix2 r l)) :
    KlOk m c t.val new := by
  intro r l hr
  rw [hnew, coord1]
  by_cases h : r.val % 128 / 16 = t.val % 8
  · rw [if_pos h]
    unfold klVal
    rw [h, show 8 * (t.val / 8) + t.val % 8 = t.val by omega, pt_val]
  · rw [if_neg h, hold (by omega) r l (by omega), show (t.val - 1) / 8 = t.val / 8 by omega]

/-- The region invariant before position `n`: before the first point every scratch at anything; afterwards the divergences' accumulator as far as it is known,
    the key gradient's at `dkAcc`, the other scratch buffers at anything, and the generator register at some state. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ (∃ d, owns (c : Thread nD τ) scM0_1 fullShare d) ∗ (∃ d, owns (c : Thread nD τ) scM0_2 fullShare d) ∗ (∃ d, ⌜KlOk m c n d⌝ ∗ owns (c : Thread nD τ) scM0_3 fullShare d) ∗ owns (c : Thread nD τ) scM0_4 fullShare (dkAcc m c n)) ∗ (∃ r, prngReg c r))

theorem PhiS_succ (c : Dev nD) (n : ℕ) (hn : n < cfg0.N) : PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, ⌜KlOk m c n d⌝ ∗ owns (c : Thread nD τ) scM0_3 fullShare d) ∗ owns (c : Thread nD τ) scM0_4 fullShare (dkAcc m c n)) ∗ (∃ r, prngReg c r)) := rfl

theorem PhiS_pos (c : Dev nD) (n : ℕ) (h : n ≤ cfg0.N) (hz : n ≠ 0) : PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, ⌜KlOk m c (n - 1) d⌝ ∗ owns (c : Thread nD τ) scM0_3 fullShare d) ∗ owns (c : Thread nD τ) scM0_4 fullShare (dkAcc m c (n - 1))) ∗ (∃ r, prngReg c r)) := by
  cases n with
  | zero => exact absurd rfl hz
  | succ n => rfl

/-- At every position the invariant gives back every scratch at some contents. -/
theorem Phi_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨HS0, HS1, HS2, ⟨%d3, %hd3, HS3⟩, HS4⟩, Hg⟩
    isplitl [HS0 HS1 HS2 HS3 HS4]
    · isplitl [HS0]
      · iexact HS0
      isplitl [HS1]
      · iexact HS1
      isplitl [HS2]
      · iexact HS2
      isplitl [HS3]
      · iexists _; iexact HS3
      iexists _; iexact HS4
    iexact Hg

/-- The proof data of the pipeline on core `c`: each input's buffer at its block; the outputs' at `klVal`, `dqOut`, `dkAcc` and `dwOut`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (fun y => klVal m c (t.val / 8) (y 2) : Vec Ideal S1x1x384 .f32)
    | ⟨7, _⟩ => dqOut (iblk m c 0 t) (iblk m c 1 t) (iblk m c 2 t) (iblk m c 3 t) (iblk m c 4 t) (iblk m c 5 t) (grid0.coords t 1).val
    | ⟨8, _⟩ => (fun y => dkAcc m c t.val (ix2 (y 2) (y 1)) : Vec Ideal S1x384x128 .f32)
    | ⟨9, _⟩ => dwOut (iblk m c 0 t) (iblk m c 1 t) (iblk m c 2 t) (iblk m c 3 t) (iblk m c 4 t) (iblk m c 5 t) (grid0.coords t 1).val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (fun y => klVal m c (t.val / 8) (y 2) : Vec Ideal S1x1x384 .f32) := by dsimp only [dats]
theorem after0_7 (c : Dev nD) (t : Fin cfg0.N) : (dats m 0 c).after 7 t = dqOut (iblk m c 0 t) (iblk m c 1 t) (iblk m c 2 t) (iblk m c 3 t) (iblk m c 4 t) (iblk m c 5 t) (grid0.coords t 1).val := by dsimp only [dats]
theorem after0_8 (c : Dev nD) (t : Fin cfg0.N) : (dats m 0 c).after 8 t = (fun y => dkAcc m c t.val (ix2 (y 2) (y 1)) : Vec Ideal S1x384x128 .f32) := by dsimp only [dats]
theorem after0_9 (c : Dev nD) (t : Fin cfg0.N) : (dats m 0 c).after 9 t = dwOut (iblk m c 0 t) (iblk m c 1 t) (iblk m c 2 t) (iblk m c 3 t) (iblk m c 4 t) (iblk m c 5 t) (grid0.coords t 1).val := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the invariant's part left open, -/
def bodyPre (R : sProp 𝕄) (c : Dev nD) (t : Fin cfg0.N) : sProp 𝕄 :=
  iprop(R ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

end Cert.KernelIdeal.Hand

end
-- ==== Proof.Val.Sound.lean ====
/- THE BODY OBLIGATION at each kind of grid point, at the reals, from the runs of the body and what they leave. -/
module

public import proofs.«01_k».proof.Proof.Val.Data

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
/-- The body at a first query tile. -/
theorem sound_A (c : Dev nD) (t : Fin cfg0.N) (h0 : t.val % 8 = 0) :
    bodyPre m (Pipeline.ΦA spec0 c) c t ⊢ wp frame (wpE (defs₀ (F := Ideal)) Variants.none c none) Set.univ (bodyAt0 t) (fun _ => bodyPost m c t) := by
  have h1 : ¬ t.val % 8 = 7 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
  rw [show (dats m 0 c).leavesExact 9 t = owns (c : Thread nD τ) (ms0_9 t) fullShare ((dats m 0 c).after 9 t) from by
    unfold Dat.leavesExact; rw [liveAt0_9 t], after0_9]
  rw [PhiA0_eq, dkAcc_first m c t.val h0, pt_val, ← coord1 t]
  iintro ⟨⟨⟨HS0, HS1, HS2, ⟨%d3, HS3⟩, HS4⟩, Hg⟩, Ho, ⟨%d0, H0⟩, ⟨%d1, H1⟩, ⟨%d2, H2⟩, ⟨%dx3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, H8, ⟨%e9, H9⟩, ⟨%fT0, HS0⟩, ⟨%fT1, HS1⟩, ⟨%fT2, HS2⟩, HS3, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; isplitr
        swap
        · unfold owns; iexists _; isplitr
          swap; · iexact HS3
          ipureintro; rfl
        ipureintro
        exact KlOk_step m c t _ _ (fun h => absurd h0 h) (fun r l => (kl_A ..).trans (if_congr Iff.rfl rfl (congrFun (Memref.IsWhole.read_unread _ _) _)))
      unfold owns; iexists _; isplitr
      swap; · iexact HS4
      ipureintro; exact dk_A ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact dq_A ..
  isplitl [H8]; · iexists _; iexact H8
  unfold owns; iexists _; isplitr
  swap; · iexact H9
  ipureintro; exact dw_A ..

set_option maxHeartbeats 8000000 in
/-- The body at a middle query tile. -/
theorem sound_B (c : Dev nD) (t : Fin cfg0.N) (h0 : ¬ t.val % 8 = 0) (h1 : ¬ t.val % 8 = 7) :
    bodyPre m (PhiS m c t.val (Nat.le_of_lt t.isLt)) c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
  rw [show (dats m 0 c).leavesExact 9 t = owns (c : Thread nD τ) (ms0_9 t) fullShare ((dats m 0 c).after 9 t) from by
    unfold Dat.leavesExact; rw [liveAt0_9 t], after0_9]
  rw [PhiS_pos m c _ _ (fun h => h0 (by rw [h])), dkAcc_later m c t.val h0, pt_val, ← coord1 t]
  iintro ⟨⟨⟨HS0, HS1, HS2, ⟨%d3, %hd3, HS3⟩, HS4⟩, Hg⟩, Ho, ⟨%d0, H0⟩, ⟨%d1, H1⟩, ⟨%d2, H2⟩, ⟨%dx3, H3⟩, ⟨%d4, H4⟩, ⟨%d5, H5⟩, ⟨%d6, H6⟩, ⟨%d7, H7⟩, ⟨%d8, H8⟩, ⟨%d9, H9⟩⟩
  iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, ⟨%e7, H7⟩, H8, ⟨%e9, H9⟩, ⟨%fT0, HS0⟩, ⟨%fT1, HS1⟩, ⟨%fT2, HS2⟩, HS3, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; isplitr
        swap
        · unfold owns; iexists _; isplitr
          swap; · iexact HS3
          ipureintro; rfl
        ipureintro
        exact KlOk_step m c t _ _ (fun _ => hd3) (fun r l => (kl_B ..).trans (if_congr Iff.rfl rfl (congrFun (Memref.IsWhole.read_unread _ _) _)))
      unfold owns; iexists _; isplitr
      swap; · iexact HS4
      ipureintro; exact dk_B ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact dq_B ..
  isplitl [H8]; · iexists _; iexact H8
  unfold owns; iexists _; isplitr
  swap; · iexact H9
  ipureintro; exact dw_B ..

set_option maxHeartbeats 8000000 in
/-- The body at a last query tile. -/
theorem sound_C (c : Dev nD) (t : Fin cfg0.N) (h1 : t.val % 8 = 7) :
    bodyPre m (PhiS m c t.val (Nat.le_of_lt t.isLt)) c t ⊢ wp frame (wpE (defs₀ (F := Ideal)) Variants.none c none) Set.univ (bodyAt0 t) (fun _ => bodyPost m c t) := by
  have h0 : ¬ t.val % 8 = 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8_C t (fun h => h0 ((hcond0_0 t).mp h)) ((hcond0_1 t).mpr h1)], after0_8, dkAcc_later m c t.val h0, pt_val, ← coord1 t]
  rw [show (dats m 0 c).leavesExact 9 t = owns (c : Thread nD τ) (ms0_9 t) fullShare ((dats m 0 c).after 9 t) from by
    unfold Dat.leavesExact; rw [liveAt0_9 t], after0_9]
  rw [PhiS_pos m c _ _ (fun h => h0 (by rw [h]))]
  iintro ⟨⟨⟨HS0, HS1, HS2, ⟨%d3, %hd3, HS3⟩, HS4⟩, Hg⟩, Ho, ⟨%d0, H0⟩, ⟨%d1, H1⟩, ⟨%d2, H2⟩, ⟨%dx3, H3⟩, ⟨%d4, H4⟩, ⟨%d5, H5⟩, ⟨%d6, H6⟩, ⟨%d7, H7⟩, ⟨%d8, H8⟩, ⟨%d9, H9⟩⟩
  iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%e7, H7⟩, ⟨%e8, H8⟩, ⟨%e9, H9⟩, ⟨%fT0, HS0⟩, ⟨%fT1, HS1⟩, ⟨%fT2, HS2⟩, HS3, ⟨%es4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; isplitr
        swap
        · unfold owns; iexists _; isplitr
          swap; · iexact HS3
          ipureintro; rfl
        ipureintro
        exact KlOk_step m c t _ _ (fun _ => hd3) (fun r l => (kl_C ..).trans (if_congr Iff.rfl rfl (congrFun (Memref.IsWhole.read_unread _ _) _)))
      unfold owns; iexists _; isplitr
      swap; · iexact HS4
      ipureintro; exact dk_C ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; funext y
    obtain ⟨a, b, r, rfl⟩ : ∃ a b r, y = ix3 a b r := ⟨y 0, y 1, y 2, by funext a; fin_cases a <;> rfl⟩
    obtain rfl : a = 0 := Subsingleton.elim _ _
    obtain rfl : b = 0 := Subsingleton.elim _ _
    refine (kl6_C ..).trans ?_
    exact (KlOk_step m c t _ _ (fun _ => hd3) (fun r l => (kl_C ..).trans (if_congr Iff.rfl rfl (congrFun (Memref.IsWhole.read_unread _ _) _)))) r 0 (by have := r.isLt; omega)
  isplitl [H7]
  · unfold owns; iexists _; isplitr
    swap; · iexact H7
    ipureintro; exact dq_C ..
  isplitl [H8]
  · unfold owns; iexists _; isplitr
    swap; · iexact H8
    ipureintro; funext y
    obtain ⟨a, s, k, rfl⟩ : ∃ a s k, y = ix3 a s k := ⟨y 0, y 1, y 2, by funext a; fin_cases a <;> rfl⟩
    obtain rfl : a = 0 := Subsingleton.elim _ _
    exact dk8_C ..
  unfold owns; iexists _; isplitr
  swap; · iexact H9
  ipureintro; exact dw_C ..

end Cert.KernelIdeal.Hand

end
-- ==== Proof.Val.Frame.lean ====
/- THE RUN AND THE FRAME of the kernel at the reals, from the body obligation. -/
module

public import proofs.«01_k».proof.Proof.Val.Sound

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m ((dats m 0 c).Φ t.castSucc) c t ⊢ wp frame (wpE (defs₀ (F := Ideal)) Variants.none c none) Set.univ (bodyAt0 t) (fun _ => bodyPost m c t) := by
  rw [PhiS_castSucc]
  by_cases h0 : t.val % 8 = 0
  · exact (show bodyPre m (PhiS m c t.val (Nat.le_of_lt t.isLt)) c t ⊢ bodyPre m (Pipeline.ΦA spec0 c) c t from by
      unfold bodyPre; exact Idealize.SL.BI.sep_mono_l (Phi_any m c t.val _)).trans (sound_A m c t h0)
  · by_cases h1 : t.val % 8 = 7
    · exact sound_C m c t h1
    · exact sound_B m c t h0 h1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives `ΦA` back. -/
theorem hout (c : Dev nD) : (dats m 0 c).Φ (Fin.last cfg0.N) ⊢ Pipeline.ΦA spec0 c :=
  (show (dats m 0 c).Φ (Fin.last cfg0.N) = PhiS m c cfg0.N (Nat.le_refl _) from rfl) ▸ Phi_any m c _ _

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the argument arrays end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.Val.RowRef.lean ====
/- THE MATHEMATICS OF ONE QUERY TOKEN, as the reference computes it, and the proof that it is what the kernel computes (`Row`): the scales
   multiply each score, where the kernel multiplies sums and weights by them; sums run over all 384 keys, where the kernel stops after
   the block the token lies in. Under `Row.Good` both are the same: a positive finite scale may be taken out of a sum and does not change a
   score's sign, and a key the token may not see carries no weight. -/
module

public import proofs.«01_k».proof.Proof.Val.Row

@[expose] public section

noncomputable section

namespace Cert.KernelIdeal.Hand

open Idealize.ShloMosaic

namespace Row

variable (r : Row)

/-- The scaled score of head `j` against key `s`. -/
def rS (j : Fin 64) (s : Fin 384) : EReal := (∑ c : Fin 128, r.q j c * r.k s c) * r.qs j * r.ks s

/-- The token's weighted score of key `s`. -/
def rIdx (s : Fin 384) : EReal := ∑ j : Fin 64, r.w j * max (r.rS j s) 0

/-- The weighted score where the token may see the key, `-∞` elsewhere. -/
def rVis (s : Fin 384) : EReal := if s.val ≤ r.T then r.rIdx s else ⊥

/-- The largest visible score. -/
def rTop : EReal := Finset.univ.fold max ⊥ fun s : Fin 384 => r.rVis s

/-- The sum of the exponentials of the visible scores, each less the largest. -/
def rMass : EReal := ∑ s : Fin 384, Ideal.exp (r.rVis s - r.rTop)

/-- The logarithm of the softmax. -/
def rLogq (s : Fin 384) : EReal := r.rIdx s - (r.rTop + Ideal.log r.rMass)

/-- The divergence. -/
def rKl : EReal := ∑ s : Fin 384, if s.val ≤ r.T then r.p s * (Ideal.log (if s.val ≤ r.T then r.p s else 1) - r.rLogq s) else 0

/-- The derivative of the divergence by the weighted score. -/
def rD (s : Fin 384) : EReal := (if s.val ≤ r.T then Ideal.exp (r.rLogq s) else 0) - r.p s

/-- The gradient of the head weights. -/
def rDw (j : Fin 64) : EReal := ∑ s : Fin 384, r.rD s * max (r.rS j s) 0

/-- The derivative by the scaled score. -/
def rG (j : Fin 64) (s : Fin 384) : EReal := if 0 < r.rS j s then r.w j * r.rD s else 0

/-- The gradient of the query vectors. -/
def rDq (j : Fin 64) (c : Fin 128) : EReal := ∑ s : Fin 384, r.rG j s * r.ks s * r.k s c

/-- The token's part of the gradient of key `s`. -/
def rDk (s : Fin 384) (c : Fin 128) : EReal := ∑ j : Fin 64, r.rG j s * r.qs j * r.q j c

/-- What the arguments must satisfy: positive finite scales, and no target weight on a key the token may not see. -/
structure Good : Prop where
  qs_pos : ∀ j, 0 < r.qs j
  qs_lt : ∀ j, r.qs j < ⊤
  ks_pos : ∀ s, 0 < r.ks s
  ks_lt : ∀ s, r.ks s < ⊤
  p_zero : ∀ s : Fin 384, r.T < s.val → r.p s = 0

end Row

/-- A nonnegative finite factor may be taken out of a sum. -/
theorem sum_mul_of_nonneg {n : ℕ} (f : Fin n → EReal) {c : EReal} (h0 : 0 ≤ c) (h1 : c < ⊤) : (∑ i, f i) * c = ∑ i, f i * c := by
  induction n with
  | zero => simp
  | succ n ih => rw [Fin.sum_univ_succ, Fin.sum_univ_succ, EReal.right_distrib_of_nonneg_of_ne_top h0 h1.ne, ih]

/-- A nonnegative factor may be taken out of a maximum with zero. -/
theorem max_mul_zero (a : EReal) {c : EReal} (h0 : 0 ≤ c) : max (a * c) 0 = max a 0 * c := by
  rcases le_total a 0 with h | h
  · rw [max_eq_right h, zero_mul, max_eq_right]
    exact EReal.mul_nonpos_iff.2 (Or.inr ⟨h, h0⟩)
  · rw [max_eq_left h, max_eq_left (mul_nonneg h h0)]

namespace Row

variable {r : Row} (g : r.Good)
include g

/-- The scales may be taken out of the part above zero. -/
theorem max_rS (j : Fin 64) (s : Fin 384) : max (r.rS j s) 0 = r.X j s * r.qs j * r.ks s := by
  unfold rS X
  rw [max_mul_zero _ (g.ks_pos s).le, max_mul_zero _ (g.qs_pos j).le]

/-- The scales do not change a score's sign. -/
theorem rS_pos (j : Fin 64) (s : Fin 384) : 0 < r.rS j s ↔ 0 < r.X j s := by
  unfold rS X
  rw [lt_max_iff]
  simp only [lt_self_iff_false, or_false]
  constructor
  · intro h
    by_contra hc
    have h1 : (∑ c : Fin 128, r.q j c * r.k s c) * r.qs j ≤ 0 := EReal.mul_nonpos_iff.2 (Or.inr ⟨not_lt.1 hc, (g.qs_pos j).le⟩)
    exact absurd h (not_lt.2 (EReal.mul_nonpos_iff.2 (Or.inr ⟨h1, (g.ks_pos s).le⟩)))
  · intro h
    exact EReal.mul_pos (EReal.mul_pos h (g.qs_pos j)) (g.ks_pos s)

theorem rIdx_eq (s : Fin 384) : r.rIdx s = r.idx s := by
  unfold rIdx idx
  rw [sum_mul_of_nonneg _ (g.ks_pos s).le (g.ks_lt s)]
  refine Finset.sum_congr rfl fun j _ => ?_
  rw [max_rS g]
  ac_rfl

theorem rTop_eq : r.rTop = r.top := by
  unfold rTop top rVis
  simp only [rIdx_eq g]

theorem rMass_eq : r.rMass = r.mass := by
  unfold rMass mass rVis
  refine Finset.sum_congr rfl fun s _ => ?_
  rw [rTop_eq g, rIdx_eq g]
  split_ifs
  · rfl
  · rw [sub_eq_add_neg, EReal.bot_add]; rfl

theorem rLogq_eq (s : Fin 384) : r.rLogq s = r.logq s := by
  unfold rLogq logq; rw [rIdx_eq g, rTop_eq g, rMass_eq g]

/-- The divergence is the same. -/
theorem rKl_eq : r.rKl = r.kl := by
  unfold rKl kl
  refine Finset.sum_congr rfl fun s _ => ?_
  rw [rLogq_eq g]
  split_ifs <;> rfl

theorem rD_eq (s : Fin 384) : r.rD s = r.d s := by
  unfold rD d; rw [rLogq_eq g]

/-- A key the token may not see has no derivative. -/
theorem d_zero (s : Fin 384) (h : r.T < s.val) : r.d s = 0 := by
  unfold d; rw [if_neg (by omega), g.p_zero s h]; simp

theorem rG_eq (j : Fin 64) (s : Fin 384) : r.rG j s = if 0 < r.X j s then r.w j * r.d s else 0 := by
  unfold rG; rw [rD_eq g]; exact if_congr (rS_pos g j s) rfl rfl

theorem rG_ks (j : Fin 64) (s : Fin 384) : r.rG j s * r.ks s = r.wq j s := by
  rw [rG_eq g]; unfold wq; split_ifs
  · exact mul_assoc _ _ _
  · exact zero_mul _

theorem rG_qs (j : Fin 64) (s : Fin 384) : r.rG j s * r.qs j = r.wk j s := by
  rw [rG_eq g]; unfold wk; split_ifs
  · ac_rfl
  · exact zero_mul _

/-- The gradient of the query vectors is the same, the keys from `n` on left out. -/
theorem rDq_eq (n : ℕ) (hn : r.T < n) (j : Fin 64) (c : Fin 128) : r.rDq j c = r.dq n j c := by
  unfold rDq dq
  refine Finset.sum_congr rfl fun s _ => ?_
  rw [rG_ks g]
  split_ifs with h
  · rfl
  · unfold wq; rw [d_zero g s (by omega)]; simp

/-- The gradient of the head weights is the same, the keys from `n` on left out. -/
theorem rDw_eq (n : ℕ) (hn : r.T < n) (j : Fin 64) : r.rDw j = r.dw n j := by
  unfold rDw dw
  rw [sum_mul_of_nonneg _ (g.qs_pos j).le (g.qs_lt j)]
  refine Finset.sum_congr rfl fun s _ => ?_
  rw [max_rS g, rD_eq g]
  split_ifs with h
  · ac_rfl
  · rw [d_zero g s (by omega)]; simp

/-- The token's part of the gradient of the keys is the same. -/
theorem rDk_eq (s : Fin 384) (c : Fin 128) : r.rDk s c = r.dk s c := by
  unfold rDk dk
  refine Finset.sum_congr rfl fun j _ => ?_
  rw [rG_qs g, mul_comm]

/-- A key the token may not see takes nothing from it. -/
theorem dk_zero (s : Fin 384) (h : r.T < s.val) (c : Fin 128) : r.dk s c = 0 := by
  unfold dk wk
  refine Finset.sum_eq_zero fun j _ => ?_
  rw [d_zero g s h]; simp

end Row

end Cert.KernelIdeal.Hand
-- ==== Proof.Val.Final.lean ====
/- THE KERNEL'S RESULTS after the run: every entry of the four arrays, as a function of one query token's data (or, for the keys' gradient, a sum of
   such over the tokens). -/
module

public import proofs.«01_k».proof.Proof.Val.Frame
public import proofs.«01_k».proof.Proof.Val.RowRef
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

open Cert.KernelIdeal Cert.KernelIdeal.Gen

variable (m : (ℓ : Loc nD τ sig) → Buf (Elt Ideal) ℓ) (ρ : Dev nD → PrngReg)

/-- The data of query token `u` of sequence `i`, from the arguments as launched. -/
def rowAt (c : Dev nD) (i : Fin 4) (u : Fin 384) : Row where
  q j k := (m ((c : Thread nD τ).loc main_arg1) : Vec Ideal S4x384x64x128 .fp8e4m3) (ix4 i u j k)
  qs j := (m ((c : Thread nD τ).loc main_arg2) : Vec Ideal S4x384x64 .f32) (ix3 i u j)
  w j := (m ((c : Thread nD τ).loc main_arg5) : Vec Ideal S4x384x64 .bf16) (ix3 i u j)
  k s k := (m ((c : Thread nD τ).loc main_arg3) : Vec Ideal S4x384x128 .fp8e4m3) (ix3 i s k)
  ks s := (m ((c : Thread nD τ).loc main_arg4) : Vec Ideal S4x384 .f32) (ix2 i s)
  p s := (m ((c : Thread nD τ).loc main_arg0) : Vec Ideal S4x384x384 .f32) (ix3 i u s)
  T := u.val

/-! ## The arguments reshaped -/

theorem cast_v0 (x : Vec Ideal S4x384x64x128 .fp8e4m3) (i : Fin 4) (b : Fin 3) (r : Fin 128) (j : Fin 64) (k : Fin 128) :
    shapeCast S4x3x128x64x128 x shapeCasts_S4x384x64x128_S4x3x128x64x128 (ix5 i b r j k) = x (ix4 i ⟨b.val * 128 + r.val, by omega⟩ j k) := by
  pointwise []

theorem V_v0 (c : Dev nD) (i : Fin 4) (b : Fin 3) (r : Fin 128) (j : Fin 64) (k : Fin 128) :
    (V m c main_v0 : Vec Ideal S4x3x128x64x128 .fp8e4m3) (ix5 i b r j k)
      = (m ((c : Thread nD τ).loc main_arg1) : Vec Ideal S4x384x64x128 .fp8e4m3) (ix4 i ⟨b.val * 128 + r.val, by omega⟩ j k) := by
  have e : (V m c main_v0 : Vec Ideal S4x3x128x64x128 .fp8e4m3) = shapeCast S4x3x128x64x128 (m ((c : Thread nD τ).loc main_arg1)) shapeCasts_S4x384x64x128_S4x3x128x64x128 := by
    show StableHlo.after hostOps0 _ (Proc.devRef .tc main_v0) = _
    after_results
    rfl
  rw [e]
  exact cast_v0 _ i b r j k

theorem cast_v1 (x : Vec Ideal S4x384x64 .f32) (i : Fin 4) (b : Fin 3) (r : Fin 128) (j : Fin 64) :
    shapeCast S4x3x128x64 x shapeCasts_S4x384x64_S4x3x128x64 (ix4 i b r j) = x (ix3 i ⟨b.val * 128 + r.val, by omega⟩ j) := by
  pointwise []

theorem V_v1 (c : Dev nD) (i : Fin 4) (b : Fin 3) (r : Fin 128) (j : Fin 64) :
    (V m c main_v1 : Vec Ideal S4x3x128x64 .f32) (ix4 i b r j)
      = (m ((c : Thread nD τ).loc main_arg2) : Vec Ideal S4x384x64 .f32) (ix3 i ⟨b.val * 128 + r.val, by omega⟩ j) := by
  have e : (V m c main_v1 : Vec Ideal S4x3x128x64 .f32) = shapeCast S4x3x128x64 (m ((c : Thread nD τ).loc main_arg2)) shapeCasts_S4x384x64_S4x3x128x64 := by
    show StableHlo.after hostOps0 _ (Proc.devRef .tc main_v1) = _
    after_results
    rfl
  rw [e]
  exact cast_v1 _ i b r j

theorem cast_v2 (x : Vec Ideal S4x384x64 .bf16) (i : Fin 4) (b : Fin 3) (r : Fin 128) (j : Fin 64) :
    shapeCast S4x3x128x64 x shapeCasts_S4x384x64_S4x3x128x64 (ix4 i b r j) = x (ix3 i ⟨b.val * 128 + r.val, by omega⟩ j) := by
  pointwise []

theorem V_v2 (c : Dev nD) (i : Fin 4) (b : Fin 3) (r : Fin 128) (j : Fin 64) :
    (V m c main_v2 : Vec Ideal S4x3x128x64 .bf16) (ix4 i b r j)
      = (m ((c : Thread nD τ).loc main_arg5) : Vec Ideal S4x384x64 .bf16) (ix3 i ⟨b.val * 128 + r.val, by omega⟩ j) := by
  have e : (V m c main_v2 : Vec Ideal S4x3x128x64 .bf16) = shapeCast S4x3x128x64 (m ((c : Thread nD τ).loc main_arg5)) shapeCasts_S4x384x64_S4x3x128x64 := by
    show StableHlo.after hostOps0 _ (Proc.devRef .tc main_v2) = _
    after_results
    rfl
  rw [e]
  exact cast_v2 _ i b r j

theorem cast_v3 (x : Vec Ideal S4x384 .f32) (i : Fin 4) (s : Fin 384) :
    shapeCast S4x1x384 x shapeCasts_S4x384_S4x1x384 (ix3 i 0 s) = x (ix2 i s) := by
  pointwise []

theorem V_v3 (c : Dev nD) (i : Fin 4) (s : Fin 384) :
    (V m c main_v3 : Vec Ideal S4x1x384 .f32) (ix3 i 0 s)
      = (m ((c : Thread nD τ).loc main_arg4) : Vec Ideal S4x384 .f32) (ix2 i s) := by
  have e : (V m c main_v3 : Vec Ideal S4x1x384 .f32) = shapeCast S4x1x384 (m ((c : Thread nD τ).loc main_arg4)) shapeCasts_S4x384_S4x1x384 := by
    show StableHlo.after hostOps0 _ (Proc.devRef .tc main_v3) = _
    after_results
    rfl
  rw [e]
  exact cast_v3 _ i s

theorem cast_v4 (x : Vec Ideal S4x384x384 .f32) (i : Fin 4) (b : Fin 3) (r : Fin 128) (s : Fin 384) :
    shapeCast S4x3x128x384 x shapeCasts_S4x384x384_S4x3x128x384 (ix4 i b r s) = x (ix3 i ⟨b.val * 128 + r.val, by omega⟩ s) := by
  pointwise []

theorem V_v4 (c : Dev nD) (i : Fin 4) (b : Fin 3) (r : Fin 128) (s : Fin 384) :
    (V m c main_v4 : Vec Ideal S4x3x128x384 .f32) (ix4 i b r s)
      = (m ((c : Thread nD τ).loc main_arg0) : Vec Ideal S4x384x384 .f32) (ix3 i ⟨b.val * 128 + r.val, by omega⟩ s) := by
  have e : (V m c main_v4 : Vec Ideal S4x3x128x384 .f32) = shapeCast S4x3x128x384 (m ((c : Thread nD τ).loc main_arg0)) shapeCasts_S4x384x384_S4x3x128x384 := by
    show StableHlo.after hostOps0 _ (Proc.devRef .tc main_v4) = _
    after_results
    rfl
  rw [e]
  exact cast_v4 _ i b r s

/-! ## Where a grid point's blocks lie -/

theorem lt32 (t : Fin cfg0.N) : t.val < 32 := lt_of_lt_of_eq t.isLt (show cfg0.N = 32 from N_0)

/-- A grid point's sequence. -/
def seqOf (t : Fin cfg0.N) : Fin 4 := ⟨t.val / 8, by have := lt32 t; omega⟩

/-- Row `r` of the point's part of a block of 128 tokens. -/
def rowIn (t : Fin cfg0.N) (r : Fin 16) : Fin 128 := ⟨16 * (t.val % 8) + r.val, by omega⟩

/-- Row `r` of the point's part of block `b`, as a token of the sequence. -/
def tokOf (t : Fin cfg0.N) (b : Fin 3) (r : Fin 16) : Fin 384 := ⟨128 * b.val + 16 * (t.val % 8) + r.val, by omega⟩

theorem tok_eq (t : Fin cfg0.N) (b : Fin 3) (r : Fin 16) : (⟨b.val * 128 + (rowIn t r).val, by omega⟩ : Fin 384) = tokOf t b r :=
  Fin.ext (by show b.val * 128 + (16 * (t.val % 8) + r.val) = 128 * b.val + 16 * (t.val % 8) + r.val; omega)

theorem idx0 : ∀ t : Fin cfg0.N, win0_0.index t (0 : Fin 5) = t.val / 8 ∧ win0_0.index t (1 : Fin 5) = 0 ∧ win0_0.index t (2 : Fin 5) = t.val % 8 ∧ win0_0.index t (3 : Fin 5) = 0 ∧ win0_0.index t (4 : Fin 5) = 0 :=
  (by decide +kernel : ∀ t : Fin grid0.N, _)
theorem idx1 : ∀ t : Fin cfg0.N, win0_1.index t (0 : Fin 4) = t.val / 8 ∧ win0_1.index t (1 : Fin 4) = 0 ∧ win0_1.index t (2 : Fin 4) = t.val % 8 ∧ win0_1.index t (3 : Fin 4) = 0 :=
  (by decide +kernel : ∀ t : Fin grid0.N, _)
theorem idx2 : ∀ t : Fin cfg0.N, win0_2.index t (0 : Fin 4) = t.val / 8 ∧ win0_2.index t (1 : Fin 4) = 0 ∧ win0_2.index t (2 : Fin 4) = t.val % 8 ∧ win0_2.index t (3 : Fin 4) = 0 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx5 : ∀ t : Fin cfg0.N, win0_5.index t (0 : Fin 4) = t.val / 8 ∧ win0_5.index t (1 : Fin 4) = 0 ∧ win0_5.index t (2 : Fin 4) = t.val % 8 ∧ win0_5.index t (3 : Fin 4) = 0 :=
  (by decide +kernel : ∀ t : Fin grid0.N, _)
theorem idx6 : ∀ t : Fin cfg0.N, win0_6.index t (0 : Fin 3) = t.val / 8 ∧ win0_6.index t (1 : Fin 3) = 0 ∧ win0_6.index t (2 : Fin 3) = 0 :=
  (by decide +kernel : ∀ t : Fin grid0.N, _)
theorem idx7 : ∀ t : Fin cfg0.N, win0_7.index t (0 : Fin 5) = t.val / 8 ∧ win0_7.index t (1 : Fin 5) = 0 ∧ win0_7.index t (2 : Fin 5) = t.val % 8 ∧ win0_7.index t (3 : Fin 5) = 0 ∧ win0_7.index t (4 : Fin 5) = 0 :=
  (by decide +kernel : ∀ t : Fin grid0.N, _)
theorem idx8 : ∀ t : Fin cfg0.N, win0_8.index t (0 : Fin 3) = t.val / 8 ∧ win0_8.index t (1 : Fin 3) = 0 ∧ win0_8.index t (2 : Fin 3) = 0 :=
  (by decide +kernel : ∀ t : Fin grid0.N, _)
theorem idx9 : ∀ t : Fin cfg0.N, win0_9.index t (0 : Fin 4) = t.val / 8 ∧ win0_9.index t (1 : Fin 4) = 0 ∧ win0_9.index t (2 : Fin 4) = t.val % 8 ∧ win0_9.index t (3 : Fin 4) = 0 :=
  (by decide +kernel : ∀ t : Fin grid0.N, _)

theorem emb0 (t : Fin cfg0.N) (y : S1x3x16x64x128.Idx) : ((cfg0.win 0).blk t).view.emb y = ix5 (seqOf t) (y 1) (rowIn t (y 2)) (y 3) (y 4) := by
  obtain ⟨e0, e1, e2, e3, e4⟩ := idx0 t
  have h0 : (y 0).val < 1 := (y 0).isLt
  funext a; apply Fin.ext
  match a with
  | ⟨0, _⟩ => show win0_0.index t (0 : Fin 5) * 1 + 1 * (y 0).val = t.val / 8; omega
  | ⟨1, _⟩ => show win0_0.index t (1 : Fin 5) * 3 + 1 * (y 1).val = (y 1).val; omega
  | ⟨2, _⟩ => show win0_0.index t (2 : Fin 5) * 16 + 1 * (y 2).val = 16 * (t.val % 8) + (y 2).val; omega
  | ⟨3, _⟩ => show win0_0.index t (3 : Fin 5) * 64 + 1 * (y 3).val = (y 3).val; omega
  | ⟨4, _⟩ => show win0_0.index t (4 : Fin 5) * 128 + 1 * (y 4).val = (y 4).val; omega

theorem emb7 (t : Fin cfg0.N) (y : S1x3x16x64x128.Idx) : ((cfg0.win 7).blk t).view.emb y = ix5 (seqOf t) (y 1) (rowIn t (y 2)) (y 3) (y 4) := by
  obtain ⟨e0, e1, e2, e3, e4⟩ := idx7 t
  have h0 : (y 0).val < 1 := (y 0).isLt
  funext a; apply Fin.ext
  match a with
  | ⟨0, _⟩ => show win0_7.index t (0 : Fin 5) * 1 + 1 * (y 0).val = t.val / 8; omega
  | ⟨1, _⟩ => show win0_7.index t (1 : Fin 5) * 3 + 1 * (y 1).val = (y 1).val; omega
  | ⟨2, _⟩ => show win0_7.index t (2 : Fin 5) * 16 + 1 * (y 2).val = 16 * (t.val % 8) + (y 2).val; omega
  | ⟨3, _⟩ => show win0_7.index t (3 : Fin 5) * 64 + 1 * (y 3).val = (y 3).val; omega
  | ⟨4, _⟩ => show win0_7.index t (4 : Fin 5) * 128 + 1 * (y 4).val = (y 4).val; omega

theorem emb1 (t : Fin cfg0.N) (y : S1x3x16x64.Idx) : ((cfg0.win 1).blk t).view.emb y = ix4 (seqOf t) (y 1) (rowIn t (y 2)) (y 3) := by
  obtain ⟨e0, e1, e2, e3⟩ := idx1 t
  have h0 : (y 0).val < 1 := (y 0).isLt
  funext a; apply Fin.ext
  match a with
  | ⟨0, _⟩ => show win0_1.index t (0 : Fin 4) * 1 + 1 * (y 0).val = t.val / 8; omega
  | ⟨1, _⟩ => show win0_1.index t (1 : Fin 4) * 3 + 1 * (y 1).val = (y 1).val; omega
  | ⟨2, _⟩ => show win0_1.index t (2 : Fin 4) * 16 + 1 * (y 2).val = 16 * (t.val % 8) + (y 2).val; omega
  | ⟨3, _⟩ => show win0_1.index t (3 : Fin 4) * 64 + 1 * (y 3).val = (y 3).val; omega

theorem emb2 (t : Fin cfg0.N) (y : S1x3x16x64.Idx) : ((cfg0.win 2).blk t).view.emb y = ix4 (seqOf t) (y 1) (rowIn t (y 2)) (y 3) := by
  obtain ⟨e0, e1, e2, e3⟩ := idx2 t
  have h0 : (y 0).val < 1 := (y 0).isLt
  funext a; apply Fin.ext
  match a with
  | ⟨0, _⟩ => show win0_2.index t (0 : Fin 4) * 1 + 1 * (y 0).val = t.val / 8; omega
  | ⟨1, _⟩ => show win0_2.index t (1 : Fin 4) * 3 + 1 * (y 1).val = (y 1).val; omega
  | ⟨2, _⟩ => show win0_2.index t (2 : Fin 4) * 16 + 1 * (y 2).val = 16 * (t.val % 8) + (y 2).val; omega
  | ⟨3, _⟩ => show win0_2.index t (3 : Fin 4) * 64 + 1 * (y 3).val = (y 3).val; omega

theorem emb5 (t : Fin cfg0.N) (y : S1x3x16x384.Idx) : ((cfg0.win 5).blk t).view.emb y = ix4 (seqOf t) (y 1) (rowIn t (y 2)) (y 3) := by
  obtain ⟨e0, e1, e2, e3⟩ := idx5 t
  have h0 : (y 0).val < 1 := (y 0).isLt
  funext a; apply Fin.ext
  match a with
  | ⟨0, _⟩ => show win0_5.index t (0 : Fin 4) * 1 + 1 * (y 0).val = t.val / 8; omega
  | ⟨1, _⟩ => show win0_5.index t (1 : Fin 4) * 3 + 1 * (y 1).val = (y 1).val; omega
  | ⟨2, _⟩ => show win0_5.index t (2 : Fin 4) * 16 + 1 * (y 2).val = 16 * (t.val % 8) + (y 2).val; omega
  | ⟨3, _⟩ => show win0_5.index t (3 : Fin 4) * 384 + 1 * (y 3).val = (y 3).val; omega

theorem emb9 (t : Fin cfg0.N) (y : S1x3x16x64.Idx) : ((cfg0.win 9).blk t).view.emb y = ix4 (seqOf t) (y 1) (rowIn t (y 2)) (y 3) := by
  obtain ⟨e0, e1, e2, e3⟩ := idx9 t
  have h0 : (y 0).val < 1 := (y 0).isLt
  funext a; apply Fin.ext
  match a with
  | ⟨0, _⟩ => show win0_9.index t (0 : Fin 4) * 1 + 1 * (y 0).val = t.val / 8; omega
  | ⟨1, _⟩ => show win0_9.index t (1 : Fin 4) * 3 + 1 * (y 1).val = (y 1).val; omega
  | ⟨2, _⟩ => show win0_9.index t (2 : Fin 4) * 16 + 1 * (y 2).val = 16 * (t.val % 8) + (y 2).val; omega
  | ⟨3, _⟩ => show win0_9.index t (3 : Fin 4) * 64 + 1 * (y 3).val = (y 3).val; omega

theorem emb3 (t : Fin cfg0.N) (y : S1x384x128.Idx) : ((cfg0.win 3).blk t).view.emb y = ix3 (seqOf t) (y 1) (y 2) := by
  obtain ⟨e0, e1, e2⟩ := idx3 t
  have h0 : (y 0).val < 1 := (y 0).isLt
  funext a; apply Fin.ext
  match a with
  | ⟨0, _⟩ => show win0_3.index t (0 : Fin 3) * 1 + 1 * (y 0).val = t.val / 8; omega
  | ⟨1, _⟩ => show win0_3.index t (1 : Fin 3) * 384 + 1 * (y 1).val = (y 1).val; omega
  | ⟨2, _⟩ => show win0_3.index t (2 : Fin 3) * 128 + 1 * (y 2).val = (y 2).val; omega

theorem emb4 (t : Fin cfg0.N) (y : S1x1x384.Idx) : ((cfg0.win 4).blk t).view.emb y = ix3 (seqOf t) (y 1) (y 2) := by
  obtain ⟨e0, e1, e2⟩ := idx4 t
  have h0 : (y 0).val < 1 := (y 0).isLt
  funext a; apply Fin.ext
  match a with
  | ⟨0, _⟩ => show win0_4.index t (0 : Fin 3) * 1 + 1 * (y 0).val = t.val / 8; omega
  | ⟨1, _⟩ => show win0_4.index t (1 : Fin 3) * 1 + 1 * (y 1).val = (y 1).val; omega
  | ⟨2, _⟩ => show win0_4.index t (2 : Fin 3) * 384 + 1 * (y 2).val = (y 2).val; omega

theorem emb6 (t : Fin cfg0.N) (y : S1x1x384.Idx) : ((cfg0.win 6).blk t).view.emb y = ix3 (seqOf t) (y 1) (y 2) := by
  obtain ⟨e0, e1, e2⟩ := idx6 t
  have h0 : (y 0).val < 1 := (y 0).isLt
  funext a; apply Fin.ext
  match a with
  | ⟨0, _⟩ => show win0_6.index t (0 : Fin 3) * 1 + 1 * (y 0).val = t.val / 8; omega
  | ⟨1, _⟩ => show win0_6.index t (1 : Fin 3) * 1 + 1 * (y 1).val = (y 1).val; omega
  | ⟨2, _⟩ => show win0_6.index t (2 : Fin 3) * 384 + 1 * (y 2).val = (y 2).val; omega

theorem emb8 (t : Fin cfg0.N) (y : S1x384x128.Idx) : ((cfg0.win 8).blk t).view.emb y = ix3 (seqOf t) (y 1) (y 2) := by
  obtain ⟨e0, e1, e2⟩ := idx8 t
  have h0 : (y 0).val < 1 := (y 0).isLt
  funext a; apply Fin.ext
  match a with
  | ⟨0, _⟩ => show win0_8.index t (0 : Fin 3) * 1 + 1 * (y 0).val = t.val / 8; omega
  | ⟨1, _⟩ => show win0_8.index t (1 : Fin 3) * 384 + 1 * (y 1).val = (y 1).val; omega
  | ⟨2, _⟩ => show win0_8.index t (2 : Fin 3) * 128 + 1 * (y 2).val = (y 2).val; omega

/-- The data of a token of the point, read from the point's blocks. -/
theorem row_eq (c : Dev nD) (t : Fin cfg0.N) (b : Fin 3) (r : Fin 16) :
    row (iblk m c 0 t) (iblk m c 1 t) (iblk m c 2 t) (iblk m c 3 t) (iblk m c 4 t) (iblk m c 5 t) (t.val % 8) b r = rowAt m c (seqOf t) (tokOf t b r) := by
  unfold row rowAt
  rw [Row.mk.injEq]
  refine ⟨?_, ?_, ?_, ?_, ?_, ?_, rfl⟩
  · funext j k
    show (V m c main_v0 : Vec Ideal S4x3x128x64x128 .fp8e4m3) (((cfg0.win 0).blk t).view.emb (ix5 0 b r j k)) = _
    rw [emb0]; exact (V_v0 m c _ _ _ _ _).trans (by rw [← tok_eq]; rfl)
  · funext j
    show (V m c main_v1 : Vec Ideal S4x3x128x64 .f32) (((cfg0.win 1).blk t).view.emb (ix4 0 b r j)) = _
    rw [emb1]; exact (V_v1 m c _ _ _ _).trans (by rw [← tok_eq]; rfl)
  · funext j
    show (V m c main_v2 : Vec Ideal S4x3x128x64 .bf16) (((cfg0.win 2).blk t).view.emb (ix4 0 b r j)) = _
    rw [emb2]; exact (V_v2 m c _ _ _ _).trans (by rw [← tok_eq]; rfl)
  · funext s k
    show (V m c main_arg3 : Vec Ideal S4x384x128 .fp8e4m3) (((cfg0.win 3).blk t).view.emb (ix3 0 s k)) = _
    rw [emb3, V_main_arg3]; rfl
  · funext s
    show (V m c main_v3 : Vec Ideal S4x1x384 .f32) (((cfg0.win 4).blk t).view.emb (ix3 0 0 s)) = _
    rw [emb4]; exact V_v3 m c _ _
  · funext s
    show (V m c main_v4 : Vec Ideal S4x3x128x384 .f32) (((cfg0.win 5).blk t).view.emb (ix4 0 b r s)) = _
    rw [emb5]; exact (V_v4 m c _ _ _ _).trans (by rw [← tok_eq]; rfl)

/-! ## The four arrays -/

variable (hG : ∀ (c : Dev nD) (i : Fin 4) (u : Fin 384), (rowAt m c i u).Good)

/-- The divergences. -/
def resKl (c : Dev nD) : Vec Ideal S4x1x384 .f32 := fun y => (rowAt m c (y 0) (y 2)).rKl

/-- The gradient of the query vectors. -/
def resDq (c : Dev nD) : Vec Ideal S4x3x128x64x128 .f32 := fun y => (rowAt m c (y 0) ⟨(y 1).val * 128 + (y 2).val, by have h1 : (y 1).val < 3 := (y 1).isLt; have h2 : (y 2).val < 128 := (y 2).isLt; omega⟩).rDq (y 3) (y 4)

/-- The gradient of the keys. -/
def resDk (c : Dev nD) : Vec Ideal S4x384x128 .f32 := fun y => ∑ u : Fin 384, (rowAt m c (y 0) u).rDk (y 1) (y 2)

/-- The gradient of the head weights. -/
def resDw (c : Dev nD) : Vec Ideal S4x3x128x64 .f32 := fun y => (rowAt m c (y 0) ⟨(y 1).val * 128 + (y 2).val, by have h1 : (y 1).val < 3 := (y 1).isLt; have h2 : (y 2).val < 128 := (y 2).isLt; omega⟩).rDw (y 3)

theorem pt_lt (n : ℕ) (h : n < 32) : (pt n).val = n := Nat.mod_eq_of_lt h

include hG

theorem klVal_eq (c : Dev nD) (q : Fin 4) (r : Fin 384) : klVal m c q.val r = (rowAt m c q r).rKl := by
  have hp : (pt (8 * q.val + r.val % 128 / 16)).val = 8 * q.val + r.val % 128 / 16 := pt_lt _ (by omega)
  unfold klVal klOut
  have h := row_eq m c (pt (8 * q.val + r.val % 128 / 16)) ⟨r.val / 128, by omega⟩ ⟨r.val % 16, by omega⟩
  rw [show (pt (8 * q.val + r.val % 128 / 16)).val % 8 = r.val % 128 / 16 by omega] at h
  rw [h, show seqOf (pt (8 * q.val + r.val % 128 / 16)) = q from Fin.ext (by show (pt (8 * q.val + r.val % 128 / 16)).val / 8 = q.val; omega),
    show tokOf (pt (8 * q.val + r.val % 128 / 16)) ⟨r.val / 128, by omega⟩ ⟨r.val % 16, by omega⟩ = r from
      Fin.ext (by show 128 * (r.val / 128) + 16 * ((pt (8 * q.val + r.val % 128 / 16)).val % 8) + r.val % 16 = r.val; omega)]
  exact (Row.rKl_eq (hG c q r)).symm

theorem final6 (c : Dev nD) : (dats m 0 c).arrAt 6 cfg0.N = resKl m c := by
  refine (dats m 0 c).arrAt_eq_of_covers 6 (resKl m c) (by decide +kernel) fun t hf y => ?_
  rw [emb6]
  show klVal m c (t.val / 8) (y 2) = (rowAt m c (seqOf t) (y 2)).rKl
  exact klVal_eq m hG c (seqOf t) (y 2)

theorem dq_row (c : Dev nD) (t : Fin cfg0.N) (b : Fin 3) (r : Fin 16) (j : Fin 64) (k : Fin 128) :
    (row (iblk m c 0 t) (iblk m c 1 t) (iblk m c 2 t) (iblk m c 3 t) (iblk m c 4 t) (iblk m c 5 t) (grid0.coords t 1).val b r).dq (128 * (b.val + 1)) j k
      = (rowAt m c (seqOf t) ⟨b.val * 128 + (rowIn t r).val, by omega⟩).rDq j k := by
  rw [coord1, row_eq, tok_eq]
  exact (Row.rDq_eq (hG c _ _) _ (by show 128 * b.val + 16 * (t.val % 8) + r.val < _; omega) _ _).symm

theorem dq_block (c : Dev nD) (t : Fin cfg0.N) (y : S1x3x16x64x128.Idx) :
    dqOut (iblk m c 0 t) (iblk m c 1 t) (iblk m c 2 t) (iblk m c 3 t) (iblk m c 4 t) (iblk m c 5 t) (grid0.coords t 1).val y = resDq m c (ix5 (seqOf t) (y 1) (rowIn t (y 2)) (y 3) (y 4)) := by
  exact dq_row m hG c t (y 1) (y 2) (y 3) (y 4)

theorem final7 (c : Dev nD) : (dats m 0 c).arrAt 7 cfg0.N = resDq m c := by
  refine (dats m 0 c).arrAt_eq_of_covers 7 (resDq m c) (by decide +kernel) fun t hf y => ?_
  rw [emb7]
  exact dq_block m hG c t y

theorem dw_row (c : Dev nD) (t : Fin cfg0.N) (b : Fin 3) (r : Fin 16) (j : Fin 64) :
    (row (iblk m c 0 t) (iblk m c 1 t) (iblk m c 2 t) (iblk m c 3 t) (iblk m c 4 t) (iblk m c 5 t) (grid0.coords t 1).val b r).dw (128 * (b.val + 1)) j
      = (rowAt m c (seqOf t) ⟨b.val * 128 + (rowIn t r).val, by omega⟩).rDw j := by
  rw [coord1, row_eq, tok_eq]
  exact (Row.rDw_eq (hG c _ _) _ (by show 128 * b.val + 16 * (t.val % 8) + r.val < _; omega) _).symm

theorem dw_block (c : Dev nD) (t : Fin cfg0.N) (y : S1x3x16x64.Idx) :
    dwOut (iblk m c 0 t) (iblk m c 1 t) (iblk m c 2 t) (iblk m c 3 t) (iblk m c 4 t) (iblk m c 5 t) (grid0.coords t 1).val y = resDw m c (ix4 (seqOf t) (y 1) (rowIn t (y 2)) (y 3)) := by
  exact dw_row m hG c t (y 1) (y 2) (y 3)

theorem final9 (c : Dev nD) : (dats m 0 c).arrAt 9 cfg0.N = resDw m c := by
  refine (dats m 0 c).arrAt_eq_of_covers 9 (resDw m c) (by decide +kernel) fun t hf y => ?_
  rw [emb9]
  exact dw_block m hG c t y

omit hG in
/-- The tokens of a sequence, by grid point, block and row. -/
theorem sum_tiles (f : Fin 384 → EReal) :
    ∑ n : Fin 8, ∑ b : Fin 3, ∑ r : Fin 16, f ⟨128 * b.val + 16 * n.val + r.val, by omega⟩ = ∑ u, f u := by
  simp only [← Finset.sum_product', Finset.univ_product_univ]
  refine Finset.sum_bij' (fun p _ => (⟨128 * p.2.1.val + 16 * p.1.val + p.2.2.val, by omega⟩ : Fin 384))
    (fun u _ => ((⟨u.val % 128 / 16, by omega⟩ : Fin 8), (⟨u.val / 128, by omega⟩ : Fin 3), (⟨u.val % 16, by omega⟩ : Fin 16))) ?_ ?_ ?_ ?_ ?_
  · intro _ _; exact Finset.mem_univ _
  · intro _ _; exact Finset.mem_univ _
  · rintro ⟨n, b, r⟩ _
    apply Prod.ext
    · apply Fin.ext; show (128 * b.val + 16 * n.val + r.val) % 128 / 16 = n.val; omega
    apply Prod.ext
    · apply Fin.ext; show (128 * b.val + 16 * n.val + r.val) / 128 = b.val; omega
    · apply Fin.ext; show (128 * b.val + 16 * n.val + r.val) % 16 = r.val; omega
  · intro u _; apply Fin.ext; show 128 * (u.val / 128) + 16 * (u.val % 128 / 16) + u.val % 16 = u.val; omega
  · intro p _; rfl

omit hG in
/-- A grid point's part of the gradient of key `s`. -/
def part (c : Dev nD) (t : Fin cfg0.N) (a : Fin 128) (s : Fin 384) : EReal := ∑ b : Fin 3, ∑ r : Fin 16, (rowAt m c (seqOf t) (tokOf t b r)).dk s a

/-- A point adds its part: the keys that it leaves out get nothing from its tokens. -/
theorem dkStep_eq (c : Dev nD) (t : Fin cfg0.N) (old : Vec Ideal S128x384 .f32) (a : Fin 128) (s : Fin 384) :
    dkStep (iblk m c 0 t) (iblk m c 1 t) (iblk m c 2 t) (iblk m c 3 t) (iblk m c 4 t) (iblk m c 5 t) (t.val % 8) old (ix2 a s) = old (ix2 a s) + part m c t a s := by
  show old (ix2 a s) + (∑ b : Fin 3, if s.val < 128 * (b.val + 1) then ∑ r : Fin 16, (row (iblk m c 0 t) (iblk m c 1 t) (iblk m c 2 t) (iblk m c 3 t) (iblk m c 4 t) (iblk m c 5 t) (t.val % 8) b r).dk s a else 0) = _
  unfold part
  refine congrArg _ (Finset.sum_congr rfl fun b _ => ?_)
  split_ifs with h
  · exact Finset.sum_congr rfl fun r _ => by rw [row_eq]
  · refine (Finset.sum_eq_zero fun r _ => Row.dk_zero (hG c _ _) s ?_ a).symm
    show 128 * b.val + 16 * (t.val % 8) + r.val < s.val
    omega

/-- The accumulator after the first `n + 1` points of a sequence: the sum of their parts. -/
theorem dkAcc_sum (c : Dev nD) (q : Fin 4) (a : Fin 128) (s : Fin 384) (n : ℕ) (hn : n < 8) :
    dkAcc m c (8 * q.val + n) (ix2 a s) = ∑ k ∈ Finset.range (n + 1), part m c (pt (8 * q.val + k)) a s := by
  have hp : (pt (8 * q.val + n)).val = 8 * q.val + n := pt_lt _ (by omega)
  induction n with
  | zero =>
    rw [dkAcc_first m c _ (by omega), Finset.sum_range_one]
    have h := dkStep_eq m hG c (pt (8 * q.val + 0)) (fun _ => 0) a s
    rw [hp] at h
    rw [h, zero_add]
  | succ n ih =>
    rw [dkAcc_later m c _ (by omega), Finset.sum_range_succ, show 8 * q.val + (n + 1) - 1 = 8 * q.val + n by omega, ← ih (by omega) (pt_lt _ (by omega))]
    have h := dkStep_eq m hG c (pt (8 * q.val + (n + 1))) (dkAcc m c (8 * q.val + n)) a s
    rw [hp] at h
    exact h

theorem final8 (c : Dev nD) : (dats m 0 c).arrAt 8 cfg0.N = resDk m c := by
  refine (dats m 0 c).arrAt_eq_of_covers 8 (resDk m c) (by decide +kernel) fun t hf y => ?_
  have ht : t.val % 8 = 7 := (flush0_8 t).1 hf
  rw [emb8]
  show dkAcc m c t.val (ix2 (y 2) (y 1)) = ∑ u : Fin 384, (rowAt m c (seqOf t) u).rDk (y 1) (y 2)
  have h := dkAcc_sum m hG c (seqOf t) (y 2) (y 1) 7 (by omega)
  rw [show 8 * (seqOf t).val + 7 = t.val by show 8 * (t.val / 8) + 7 = t.val; omega] at h
  rw [h, Finset.sum_range, ← sum_tiles]
  refine Finset.sum_congr rfl fun n _ => ?_
  have hp : (pt (8 * (seqOf t).val + n.val)).val = 8 * (seqOf t).val + n.val := pt_lt _ (by omega)
  unfold part
  refine Finset.sum_congr rfl fun b _ => Finset.sum_congr rfl fun r _ => ?_
  rw [show seqOf (pt (8 * (seqOf t).val + n.val)) = seqOf t from Fin.ext (by show (pt (8 * (seqOf t).val + n.val)).val / 8 = (seqOf t).val; omega),
    show tokOf (pt (8 * (seqOf t).val + n.val)) b r = ⟨128 * b.val + 16 * n.val + r.val, by omega⟩ from
      Fin.ext (by show 128 * b.val + 16 * ((pt (8 * (seqOf t).val + n.val)).val % 8) + r.val = 128 * b.val + 16 * n.val + r.val; omega)]
  exact (Row.rDk_eq (hG c _ _) _ _).symm

/-- THE RUN, READ: each result array at its function of the arguments, the arguments unchanged. -/
theorem run : θ_run defs (onTc (τ := τ) (main (F := Ideal))) ⟨m, fun _ => 0, ρ⟩ fun r => ∀ c : Dev nD,
      r.2.mem ((c : Thread nD τ).loc main_v5_0) = resKl m c
      ∧ r.2.mem ((c : Thread nD τ).loc main_v5_1) = resDq m c
      ∧ r.2.mem ((c : Thread nD τ).loc main_v5_2) = resDk m c
      ∧ r.2.mem ((c : Thread nD τ).loc main_v5_3) = resDw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (θ_run_and (run_main m ρ) (unchanged m ρ))
  obtain ⟨h, hu⟩ := h
  refine ⟨?_, ?_, ?_, ?_, hu c⟩
  · exact ((h c).1 6).trans (final6 m hG c)
  · exact ((h c).1 7).trans (final7 m hG c)
  · exact ((h c).1 8).trans (final8 m hG c)
  · exact ((h c).1 9).trans (final9 m hG c)

end Cert.KernelIdeal.Hand

end
-- ==== Proof.Val.RefRun.lean ====
/- THE REFERENCE RUN: the reference is one call over whole arrays with one grid point, so each result array after the run is the value the
   body stores (`G6` to `G9`), applied to the argument arrays. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x384x384.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 384 + 1 * (j 1).val = (j 1).val; omega
  | ⟨2, _⟩ => show win0_0.index t (2 : Fin 3) * 384 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0, 0] : Fin 4 → Nat) = fun _ => 0 := funext fun a => by fin_cases a <;> rfl

/-- Window 1's block index at the one point is zero on every axis. -/
theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S4x384x64x128.Idx) : ((cfg0.win 1).blk t).view.emb j = j := by
  obtain ⟨e0, e1, e2, e3⟩ := idx_zero1 t
  funext a; apply Fin.ext
  match a with
  | ⟨0, _⟩ => show win0_1.index t (0 : Fin 4) * 4 + 1 * (j 0).val = (j 0).val; omega
  | ⟨1, _⟩ => show win0_1.index t (1 : Fin 4) * 384 + 1 * (j 1).val = (j 1).val; omega
  | ⟨2, _⟩ => show win0_1.index t (2 : Fin 4) * 64 + 1 * (j 2).val = (j 2).val; omega
  | ⟨3, _⟩ => show win0_1.index t (3 : Fin 4) * 128 + 1 * (j 3).val = (j 3).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S4x384x64.Idx) : ((cfg0.win 2).blk t).view.emb j = j := by
  obtain ⟨e0, e1, e2⟩ := idx_zero2 t
  funext a; apply Fin.ext
  match a with
  | ⟨0, _⟩ => show win0_2.index t (0 : Fin 3) * 4 + 1 * (j 0).val = (j 0).val; omega
  | ⟨1, _⟩ => show win0_2.index t (1 : Fin 3) * 384 + 1 * (j 1).val = (j 1).val; omega
  | ⟨2, _⟩ => show win0_2.index t (2 : Fin 3) * 64 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S4x384x128.Idx) : ((cfg0.win 3).blk t).view.emb j = j := by
  obtain ⟨e0, e1, e2⟩ := idx_zero3 t
  funext a; apply Fin.ext
  match a with
  | ⟨0, _⟩ => show win0_3.index t (0 : Fin 3) * 4 + 1 * (j 0).val = (j 0).val; omega
  | ⟨1, _⟩ => show win0_3.index t (1 : Fin 3) * 384 + 1 * (j 1).val = (j 1).val; omega
  | ⟨2, _⟩ => show win0_3.index t (2 : Fin 3) * 128 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S4x384.Idx) : ((cfg0.win 4).blk t).view.emb j = j := by
  obtain ⟨e0, e1⟩ := idx_zero4 t
  funext a; apply Fin.ext
  match a with
  | ⟨0, _⟩ => show win0_4.index t (0 : Fin 2) * 4 + 1 * (j 0).val = (j 0).val; omega
  | ⟨1, _⟩ => show win0_4.index t (1 : Fin 2) * 384 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x384x64.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 384 + 1 * (j 1).val = (j 1).val; omega
  | ⟨2, _⟩ => show win0_5.index t (2 : Fin 3) * 64 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x1x384.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 1 + 1 * (j 1).val = (j 1).val; omega
  | ⟨2, _⟩ => show win0_6.index t (2 : Fin 3) * 384 + 1 * (j 2).val = (j 2).val; omega

theorem hz7 : (![0, 0, 0, 0, 0] : Fin 5 → Nat) = fun _ => 0 := funext fun a => by fin_cases a <;> rfl

/-- Window 7's block index at the one point is zero on every axis. -/
theorem idx_zero7 : ∀ t : Fin cfg0.N, win0_7.index t (0 : Fin 5) = 0 ∧ win0_7.index t (1 : Fin 5) = 0 ∧ win0_7.index t (2 : Fin 5) = 0 ∧ win0_7.index t (3 : Fin 5) = 0 ∧ win0_7.index t (4 : Fin 5) = 0 :=
  (by decide +kernel : ∀ t : Fin grid0.N, _)

/-- An index of window 7's block is the same index of its array. -/
theorem emb7 (t : Fin cfg0.N) (j : S4x3x128x64x128.Idx) : ((cfg0.win 7).blk t).view.emb j = j := by
  obtain ⟨e0, e1, e2, e3, e4⟩ := idx_zero7 t
  funext a; apply Fin.ext
  match a with
  | ⟨0, _⟩ => show win0_7.index t (0 : Fin 5) * 4 + 1 * (j 0).val = (j 0).val; omega
  | ⟨1, _⟩ => show win0_7.index t (1 : Fin 5) * 3 + 1 * (j 1).val = (j 1).val; omega
  | ⟨2, _⟩ => show win0_7.index t (2 : Fin 5) * 128 + 1 * (j 2).val = (j 2).val; omega
  | ⟨3, _⟩ => show win0_7.index t (3 : Fin 5) * 64 + 1 * (j 3).val = (j 3).val; omega
  | ⟨4, _⟩ => show win0_7.index t (4 : Fin 5) * 128 + 1 * (j 4).val = (j 4).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S4x384x128.Idx) : ((cfg0.win 8).blk t).view.emb j = j := by
  obtain ⟨e0, e1, e2⟩ := idx_zero8 t
  funext a; apply Fin.ext
  match a with
  | ⟨0, _⟩ => show win0_8.index t (0 : Fin 3) * 4 + 1 * (j 0).val = (j 0).val; omega
  | ⟨1, _⟩ => show win0_8.index t (1 : Fin 3) * 384 + 1 * (j 1).val = (j 1).val; omega
  | ⟨2, _⟩ => show win0_8.index t (2 : Fin 3) * 128 + 1 * (j 2).val = (j 2).val; omega

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S4x3x128x64.Idx) : ((cfg0.win 9).blk t).view.emb j = j := by
  obtain ⟨e0, e1, e2, e3⟩ := idx_zero9 t
  funext a; apply Fin.ext
  match a with
  | ⟨0, _⟩ => show win0_9.index t (0 : Fin 4) * 4 + 1 * (j 0).val = (j 0).val; omega
  | ⟨1, _⟩ => show win0_9.index t (1 : Fin 4) * 3 + 1 * (j 1).val = (j 1).val; omega
  | ⟨2, _⟩ => show win0_9.index t (2 : Fin 4) * 128 + 1 * (j 2).val = (j 2).val; omega
  | ⟨3, _⟩ => show win0_9.index t (3 : Fin 4) * 64 + 1 * (j 3).val = (j 3).val; omega

/-! ### Output window 6: the array after the run -/

/-- What the window's array ends holding: `out0_6` applied to the argument arrays in place of the input blocks (a value that the
    frame states apart, `kK_payN a…`, keeps its loads inside its own definition). -/
abbrev G6 (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : Vec F S4x1x384 .f32 :=
  k0_pay12 (k0_pay18 a0 a1 a2 a3 a4 a5) a0 (k0_pay20 a0 a1 a2 a3 a4 a5) (k0_pay21 a0 a1 a2 a3 a4 a5) (k0_pay22 a0 a1 a2 a3 a4 a5)

/-- A load of the whole of a block reads the block, and the one store through the whole rectangle leaves its payload. -/
theorem out6_eq (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : out0_6 (F := F) a0 a1 a2 a3 a4 a5 = G6 a0 a1 a2 a3 a4 a5 := by
  unfold out0_6
  rw [View.canon_unit_zero hz6, View.ld_unit_zero (S := S4x384x384) hz0 _ a0]

/-- Cutting the point's block out of `X` and reading `X` through the block's view give the same. -/
theorem cut6_eq (t : Fin cfg0.N) (X : Vec F S4x1x384 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S4x1x384.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : Vec F S4x3x128x64x128 .f32 :=
  k0_pay16 (k0_pay2 a3) (k0_pay3 a4) (k0_pay17 a0 a1 a2 a3 a4 a5) (k0_pay18 a0 a1 a2 a3 a4 a5) a0 (k0_pay19 a0 a1 a2 a3 a4 a5) (k0_pay20 a0 a1 a2 a3 a4 a5) (k0_pay21 a0 a1 a2 a3 a4 a5) (k0_pay22 a0 a1 a2 a3 a4 a5)

/-- A load of the whole of a block reads the block, and the one store through the whole rectangle leaves its payload. -/
theorem out7_eq (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : out0_7 (F := F) a0 a1 a2 a3 a4 a5 = G7 a0 a1 a2 a3 a4 a5 := by
  unfold out0_7
  rw [View.canon_unit_zero hz7, View.ld_unit_zero (S := S4x384x128) hz3 _ a3, View.ld_unit_zero (S := S4x384) hz4 _ a4, View.ld_unit_zero (S := S4x384x384) hz0 _ a0]

/-- Cutting the point's block out of `X` and reading `X` through the block's view give the same. -/
theorem cut7_eq (t : Fin cfg0.N) (X : Vec F S4x3x128x64x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S4x3x128x64x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : Vec F S4x384x128 .f32 :=
  k0_pay1 a1 a2 (k0_pay15 (k0_pay17 a0 a1 a2 a3 a4 a5) (k0_pay18 a0 a1 a2 a3 a4 a5) a0 (k0_pay19 a0 a1 a2 a3 a4 a5) (k0_pay20 a0 a1 a2 a3 a4 a5) (k0_pay21 a0 a1 a2 a3 a4 a5) (k0_pay22 a0 a1 a2 a3 a4 a5))

/-- A load of the whole of a block reads the block, and the one store through the whole rectangle leaves its payload. -/
theorem out8_eq (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : out0_8 (F := F) a0 a1 a2 a3 a4 a5 = G8 a0 a1 a2 a3 a4 a5 := by
  unfold out0_8
  rw [View.canon_unit_zero hz8, View.ld_unit_zero (S := S4x384x64x128) hz1 _ a1, View.ld_unit_zero (S := S4x384x64) hz2 _ a2, View.ld_unit_zero (S := S4x384x384) hz0 _ a0]

/-- Cutting the point's block out of `X` and reading `X` through the block's view give the same. -/
theorem cut8_eq (t : Fin cfg0.N) (X : Vec F S4x384x128 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S4x384x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : Vec F S4x3x128x64 .f32 :=
  k0_pay14 (k0_pay18 a0 a1 a2 a3 a4 a5) a0 (k0_pay7 a3 a1 a2 a4) (k0_pay20 a0 a1 a2 a3 a4 a5) (k0_pay21 a0 a1 a2 a3 a4 a5) (k0_pay22 a0 a1 a2 a3 a4 a5)

/-- A load of the whole of a block reads the block, and the one store through the whole rectangle leaves its payload. -/
theorem out9_eq (a0 : Vec F S4x384x384 .f32) (a1 : Vec F S4x384x64x128 .fp8e4m3) (a2 : Vec F S4x384x64 .f32) (a3 : Vec F S4x384x128 .fp8e4m3) (a4 : Vec F S4x384 .f32) (a5 : Vec F S4x384x64 .bf16) : out0_9 (F := F) a0 a1 a2 a3 a4 a5 = G9 a0 a1 a2 a3 a4 a5 := by
  unfold out0_9
  rw [View.canon_unit_zero hz9, View.ld_unit_zero (S := S4x384x384) hz0 _ a0, View.ld_unit_zero (S := S4x384x128) hz3 _ a3, View.ld_unit_zero (S := S4x384x64x128) hz1 _ a1, View.ld_unit_zero (S := S4x384x64) hz2 _ a2, View.ld_unit_zero (S := S4x384) hz4 _ a4]

/-- Cutting the point's block out of `X` and reading `X` through the block's view give the same. -/
theorem cut9_eq (t : Fin cfg0.N) (X : Vec F S4x3x128x64 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S4x3x128x64.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Hand

end
-- ==== Proof.Val.Ref.lean ====
/- THE REFERENCE'S VALUES: every entry of its four results, as a function of one query token's data (or, for the keys' gradient, a sum of
   such over the tokens). -/
module

public import proofs.«01_k».proof.Proof.Val.RefRun
public import proofs.«01_k».proof.Proof.Val.RowRef
public import Idealize.ShloMosaic.Lib.Pointwise
public import Idealize.ShloMosaic.Lib.WordCmp

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.KernelIdeal.Hand

variable (a0 : Vec Ideal S4x384x384 .f32) (a1 : Vec Ideal S4x384x64x128 .fp8e4m3) (a2 : Vec Ideal S4x384x64 .f32)
  (a3 : Vec Ideal S4x384x128 .fp8e4m3) (a4 : Vec Ideal S4x384 .f32) (a5 : Vec Ideal S4x384x64 .bf16)

/-- The data of query token `u` of sequence `i`, from the arguments. -/
def rowOf (i : Fin 4) (u : Fin 384) : Row where
  q j c := a1 (ix4 i u j c)
  qs j := a2 (ix3 i u j)
  w j := a5 (ix3 i u j)
  k s c := a3 (ix3 i s c)
  ks s := a4 (ix2 i s)
  p s := a0 (ix3 i u s)
  T := u.val

/-- Negative infinity's encoding. -/
theorem ninf : Ideal.ofBits FTy.f32 4286578688#32 = ⊥ := by simp [Ideal.ofBits, Ideal.ieee]

/-- A choice by a comparison of positions. -/
theorem select_pos (p : Prop) [Decidable p] (x y : EReal) : Scalar.select (if p then 1#1 else 0#1) x y = if p then x else y := by
  split_ifs <;> rfl

theorem pay6_apply (i : Fin 4) (u : Fin 384) (j : Fin 64) (s : Fin 384) :
    k0_pay6 (F := Ideal) a3 a1 a2 a4 (ix4 i u j s) = (rowOf a0 a1 a2 a3 a4 a5 i u).rS j s := by
  pointwise [k0_pay6, k0_pay3]
  rfl

theorem pay5_apply (i : Fin 4) (u s : Fin 384) : k0_pay5 (ix3 i u s) = if s.val ≤ u.val then 1#1 else 0#1 := by
  pointwise [k0_pay5]
  rw [WordCmp.cmpi_sle_ofNat (by omega) (by omega)]
  by_cases h : s.val ≤ u.val
  · rw [if_pos h, decide_eq_true h]; rfl
  · rw [if_neg h, decide_eq_false h]; rfl

theorem pay7_apply (i : Fin 4) (u : Fin 384) (j : Fin 64) (s : Fin 384) :
    k0_pay7 (F := Ideal) a3 a1 a2 a4 (ix4 i u j s) = max ((rowOf a0 a1 a2 a3 a4 a5 i u).rS j s) 0 := by
  pointwise [k0_pay7]
  rw [pay6_apply a0 a1 a2 a3 a4 a5]

theorem pay8_apply (i : Fin 4) (u : Fin 384) (s : Fin 384) :
    k0_pay8 (F := Ideal) a3 a1 a2 a4 a5 (ix3 i u s) = (rowOf a0 a1 a2 a3 a4 a5 i u).rIdx s := by
  pointwise [k0_pay8, k0_pay4]
  simp only [pay7_apply a0 a1 a2 a3 a4 a5]
  rfl

theorem pay9_apply (i : Fin 4) (u : Fin 384) :
    k0_pay9 (F := Ideal) a3 a1 a2 a4 a5 (ix3 i u 0) = (rowOf a0 a1 a2 a3 a4 a5 i u).rTop := by
  pointwise [k0_pay9]
  simp only [pay8_apply a0 a1 a2 a3 a4 a5, pay5_apply, select_pos, ninf]
  rfl

theorem pay10_apply (i : Fin 4) (u s : Fin 384) :
    k0_pay10 (F := Ideal) a3 a1 a2 a4 a5 (ix3 i u s) = Ideal.exp ((rowOf a0 a1 a2 a3 a4 a5 i u).rVis s - (rowOf a0 a1 a2 a3 a4 a5 i u).rTop) := by
  pointwise [k0_pay10]
  simp only [pay8_apply a0 a1 a2 a3 a4 a5, pay5_apply, pay9_apply a0 a1 a2 a3 a4 a5, select_pos, ninf]
  rfl

/-- The log-softmax. -/
theorem pay11_apply (i : Fin 4) (u s : Fin 384) :
    k0_pay11 (F := Ideal) (k0_pay8 a3 a1 a2 a4 a5) (k0_pay9 a3 a1 a2 a4 a5) (k0_pay10 a3 a1 a2 a4 a5) (ix3 i u s) = (rowOf a0 a1 a2 a3 a4 a5 i u).rLogq s := by
  pointwise [k0_pay11]
  simp only [pay8_apply a0 a1 a2 a3 a4 a5, pay9_apply a0 a1 a2 a3 a4 a5, pay10_apply a0 a1 a2 a3 a4 a5]
  rfl

/-- The divergence. -/
theorem pay12_apply (i : Fin 4) (u : Fin 384) :
    k0_pay12 (F := Ideal) k0_pay5 a0 (k0_pay8 a3 a1 a2 a4 a5) (k0_pay9 a3 a1 a2 a4 a5) (k0_pay10 a3 a1 a2 a4 a5) (ix3 i 0 u) = (rowOf a0 a1 a2 a3 a4 a5 i u).rKl := by
  pointwise [k0_pay12]
  simp only [pay11_apply a0 a1 a2 a3 a4 a5, pay5_apply, select_pos]
  rfl

theorem pay13_apply (i : Fin 4) (u s : Fin 384) :
    k0_pay13 (F := Ideal) k0_pay5 a0 (k0_pay8 a3 a1 a2 a4 a5) (k0_pay9 a3 a1 a2 a4 a5) (k0_pay10 a3 a1 a2 a4 a5) (ix3 i u s) = (rowOf a0 a1 a2 a3 a4 a5 i u).rD s := by
  pointwise [k0_pay13]
  simp only [pay11_apply a0 a1 a2 a3 a4 a5, pay5_apply, select_pos]
  rfl

/-- The gradient of the head weights. -/
theorem pay14_apply (i : Fin 4) (b : Fin 3) (t : Fin 128) (j : Fin 64) :
    k0_pay14 (F := Ideal) k0_pay5 a0 (k0_pay7 a3 a1 a2 a4) (k0_pay8 a3 a1 a2 a4 a5) (k0_pay9 a3 a1 a2 a4 a5) (k0_pay10 a3 a1 a2 a4 a5) (ix4 i b t j)
      = (rowOf a0 a1 a2 a3 a4 a5 i ⟨b.val * 128 + t.val, by omega⟩).rDw j := by
  pointwise [k0_pay14]
  simp only [pay13_apply a0 a1 a2 a3 a4 a5, pay7_apply a0 a1 a2 a3 a4 a5]
  rfl

theorem pay15_apply (i : Fin 4) (u : Fin 384) (j : Fin 64) (s : Fin 384) :
    k0_pay15 (F := Ideal) (k0_pay4 a5) k0_pay5 a0 (k0_pay6 a3 a1 a2 a4) (k0_pay8 a3 a1 a2 a4 a5) (k0_pay9 a3 a1 a2 a4 a5) (k0_pay10 a3 a1 a2 a4 a5) (ix4 i u j s)
      = (rowOf a0 a1 a2 a3 a4 a5 i u).rG j s := by
  pointwise [k0_pay15, k0_pay4]
  simp only [pay13_apply a0 a1 a2 a3 a4 a5, pay6_apply a0 a1 a2 a3 a4 a5]
  rfl

theorem dq_at (i : Fin 4) {u v : Fin 384} (h : u = v) (j : Fin 64) (c : Fin 128) :
    ∑ x : Fin 384, (rowOf a0 a1 a2 a3 a4 a5 i u).rG j x * a4 (ix2 i x) * a3 (ix3 i x c) = (rowOf a0 a1 a2 a3 a4 a5 i v).rDq j c := by
  subst h; rfl

/-- The gradient of the query vectors. -/
theorem pay16_apply (i : Fin 4) (b : Fin 3) (t : Fin 128) (j : Fin 64) (c : Fin 128) :
    k0_pay16 (F := Ideal) (k0_pay2 a3) (k0_pay3 a4) (k0_pay4 a5) k0_pay5 a0 (k0_pay6 a3 a1 a2 a4) (k0_pay8 a3 a1 a2 a4 a5) (k0_pay9 a3 a1 a2 a4 a5) (k0_pay10 a3 a1 a2 a4 a5) (ix5 i b t j c)
      = (rowOf a0 a1 a2 a3 a4 a5 i ⟨b.val * 128 + t.val, by omega⟩).rDq j c := by
  pointwise [k0_pay16, k0_pay2, k0_pay3]
  simp only [pay15_apply a0 a1 a2 a3 a4 a5]
  have e : (⟨(b.val * 8192 + t.val * 64 + j.val) / 64, by omega⟩ : Fin 384) = ⟨b.val * 128 + t.val, by omega⟩ :=
    Fin.ext (by show (b.val * 8192 + t.val * 64 + j.val) / 64 = b.val * 128 + t.val; omega)
  exact dq_at a0 a1 a2 a3 a4 a5 i e j c

/-- A sum over the (token, head) rows is a sum over the tokens of sums over the heads. -/
theorem sum_tokens (f : Fin 24576 → EReal) : ∑ r, f r = ∑ u : Fin 384, ∑ j : Fin 64, f ⟨64 * u.val + j.val, by omega⟩ := by
  rw [← Finset.sum_product', Finset.univ_product_univ]
  refine Finset.sum_bij' (fun r _ => ((⟨r.val / 64, by omega⟩ : Fin 384), (⟨r.val % 64, by omega⟩ : Fin 64))) (fun p _ => ⟨64 * p.1.val + p.2.val, by omega⟩) ?_ ?_ ?_ ?_ ?_
  · intro _ _; exact Finset.mem_univ _
  · intro _ _; exact Finset.mem_univ _
  · intro r _; apply Fin.ext; show 64 * (r.val / 64) + r.val % 64 = r.val; omega
  · intro p _; apply Prod.ext <;> apply Fin.ext
    · show (64 * p.1.val + p.2.val) / 64 = p.1.val; omega
    · show (64 * p.1.val + p.2.val) % 64 = p.2.val; omega
  · intro r _; congr 1; apply Fin.ext; show r.val = 64 * (r.val / 64) + r.val % 64; omega

/-- The gradient of the keys. -/
theorem pay1_apply (i : Fin 4) (s : Fin 384) (c : Fin 128) :
    k0_pay1 (F := Ideal) a1 a2 (k0_pay15 (k0_pay4 a5) k0_pay5 a0 (k0_pay6 a3 a1 a2 a4) (k0_pay8 a3 a1 a2 a4 a5) (k0_pay9 a3 a1 a2 a4 a5) (k0_pay10 a3 a1 a2 a4 a5)) (ix3 i s c)
      = ∑ u : Fin 384, (rowOf a0 a1 a2 a3 a4 a5 i u).rDk s c := by
  pointwise [k0_pay1]
  simp only [pay15_apply a0 a1 a2 a3 a4 a5]
  rw [sum_tokens]
  refine Finset.sum_congr rfl fun u _ => Finset.sum_congr rfl fun j _ => ?_
  have e1 : (⟨(64 * u.val + j.val) / 64, by omega⟩ : Fin 384) = u := Fin.ext (by show (64 * u.val + j.val) / 64 = u.val; omega)
  have e2 : (⟨(64 * u.val + j.val) % 64, by omega⟩ : Fin 64) = j := Fin.ext (by show (64 * u.val + j.val) % 64 = j.val; omega)
  show (rowOf a0 a1 a2 a3 a4 a5 i ⟨(64 * u.val + j.val) / 64, _⟩).rG ⟨(64 * u.val + j.val) % 64, _⟩ s * a2 (ix3 i ⟨(64 * u.val + j.val) / 64, _⟩ ⟨(64 * u.val + j.val) % 64, _⟩)
    * a1 (ix4 i ⟨(64 * u.val + j.val) / 64, _⟩ ⟨(64 * u.val + j.val) % 64, _⟩ c) = _
  rw [e1, e2]
  rfl

/-! ## The four results -/

/-- The reference's loads are of whole arrays. -/
theorem pays : k0_pay17 (F := Ideal) a0 a1 a2 a3 a4 a5 = k0_pay4 a5 ∧ k0_pay18 (F := Ideal) a0 a1 a2 a3 a4 a5 = k0_pay5
    ∧ k0_pay19 (F := Ideal) a0 a1 a2 a3 a4 a5 = k0_pay6 a3 a1 a2 a4 ∧ k0_pay20 (F := Ideal) a0 a1 a2 a3 a4 a5 = k0_pay8 a3 a1 a2 a4 a5
    ∧ k0_pay21 (F := Ideal) a0 a1 a2 a3 a4 a5 = k0_pay9 a3 a1 a2 a4 a5 ∧ k0_pay22 (F := Ideal) a0 a1 a2 a3 a4 a5 = k0_pay10 a3 a1 a2 a4 a5 := by
  refine ⟨?_, rfl, ?_, ?_, ?_, ?_⟩
  · unfold k0_pay17; rw [View.ld_unit_zero (S := S4x384x64) hz5 _ a5]
  · unfold k0_pay19; rw [View.ld_unit_zero (S := S4x384x128) hz3 _ a3, View.ld_unit_zero (S := S4x384x64x128) hz1 _ a1, View.ld_unit_zero (S := S4x384x64) hz2 _ a2, View.ld_unit_zero (S := S4x384) hz4 _ a4]
  · unfold k0_pay20; rw [View.ld_unit_zero (S := S4x384x128) hz3 _ a3, View.ld_unit_zero (S := S4x384x64x128) hz1 _ a1, View.ld_unit_zero (S := S4x384x64) hz2 _ a2, View.ld_unit_zero (S := S4x384) hz4 _ a4, View.ld_unit_zero (S := S4x384x64) hz5 _ a5]
  · unfold k0_pay21; rw [View.ld_unit_zero (S := S4x384x128) hz3 _ a3, View.ld_unit_zero (S := S4x384x64x128) hz1 _ a1, View.ld_unit_zero (S := S4x384x64) hz2 _ a2, View.ld_unit_zero (S := S4x384) hz4 _ a4, View.ld_unit_zero (S := S4x384x64) hz5 _ a5]
  · unfold k0_pay22; rw [View.ld_unit_zero (S := S4x384x128) hz3 _ a3, View.ld_unit_zero (S := S4x384x64x128) hz1 _ a1, View.ld_unit_zero (S := S4x384x64) hz2 _ a2, View.ld_unit_zero (S := S4x384) hz4 _ a4, View.ld_unit_zero (S := S4x384x64) hz5 _ a5]

theorem G6_apply (i : Fin 4) (u : Fin 384) : G6 a0 a1 a2 a3 a4 a5 (ix3 i 0 u) = (rowOf a0 a1 a2 a3 a4 a5 i u).rKl := by
  obtain ⟨e17, e18, e19, e20, e21, e22⟩ := pays a0 a1 a2 a3 a4 a5
  unfold G6
  rw [e18, e20, e21, e22, pay12_apply a0 a1 a2 a3 a4 a5]

theorem G7_apply (i : Fin 4) (b : Fin 3) (t : Fin 128) (j : Fin 64) (c : Fin 128) :
    G7 a0 a1 a2 a3 a4 a5 (ix5 i b t j c) = (rowOf a0 a1 a2 a3 a4 a5 i ⟨b.val * 128 + t.val, by omega⟩).rDq j c := by
  obtain ⟨e17, e18, e19, e20, e21, e22⟩ := pays a0 a1 a2 a3 a4 a5
  unfold G7
  rw [e17, e18, e19, e20, e21, e22, pay16_apply a0 a1 a2 a3 a4 a5]

theorem G8_apply (i : Fin 4) (s : Fin 384) (c : Fin 128) :
    G8 a0 a1 a2 a3 a4 a5 (ix3 i s c) = ∑ u : Fin 384, (rowOf a0 a1 a2 a3 a4 a5 i u).rDk s c := by
  obtain ⟨e17, e18, e19, e20, e21, e22⟩ := pays a0 a1 a2 a3 a4 a5
  unfold G8
  rw [e17, e18, e19, e20, e21, e22, pay1_apply a0 a1 a2 a3 a4 a5]

theorem G9_apply (i : Fin 4) (b : Fin 3) (t : Fin 128) (j : Fin 64) :
    G9 a0 a1 a2 a3 a4 a5 (ix4 i b t j) = (rowOf a0 a1 a2 a3 a4 a5 i ⟨b.val * 128 + t.val, by omega⟩).rDw j := by
  obtain ⟨e17, e18, e19, e20, e21, e22⟩ := pays a0 a1 a2 a3 a4 a5
  unfold G9
  rw [e18, e20, e21, e22, pay14_apply a0 a1 a2 a3 a4 a5]

end Cert.ReferenceIdeal.Hand
-- ==== Proof.Val.Pre.lean ====
/- THE PRECONDITION, read: every query token's data is as the proof of the results needs it. -/
module

public import proofs.«01_k».proof.Defs
public import proofs.«01_k».proof.Proof.Gen.Pre_scales_positive
public import proofs.«01_k».proof.Proof.Val.Final
public import proofs.«01_k».proof.Proof.Val.Ref

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (a0 : Vec Ideal S4x384x384 .f32) (a1 : Vec Ideal S4x384x64x128 .fp8e4m3) (a2 : Vec Ideal S4x384x64 .f32)
  (a3 : Vec Ideal S4x384x128 .fp8e4m3) (a4 : Vec Ideal S4x384 .f32) (a5 : Vec Ideal S4x384x64 .bf16)

/-- Positive infinity's encoding. -/
theorem pinf : Ideal.ofBits FTy.f32 2139095040#32 = ⊤ := by simp [Ideal.ofBits, Ideal.ieee]

theorem bit_if (p : Prop) [Decidable p] : BitVec.ofBool (decide p) = if p then 1#1 else 0#1 := by
  by_cases h : p
  · rw [if_pos h, decide_eq_true h]; rfl
  · rw [if_neg h, decide_eq_false h]; rfl

theorem and_bit (p q : Prop) [Decidable p] [Decidable q] (h : (if p then 1#1 else 0#1) &&& (if q then 1#1 else 0#1) = 1#1) : p ∧ q := by
  by_cases hp : p <;> by_cases hq : q <;> simp_all

theorem or_bit (p q : Prop) [Decidable p] [Decidable q] (h : (if p then 1#1 else 0#1) ||| (if q then 1#1 else 0#1) = 1#1) : p ∨ q := by
  by_cases hp : p <;> by_cases hq : q <;> simp_all

theorem fn0_apply (i : Fin 4) (u s : Fin 384) : (Cert.Pre_scales_positive.fn (F := Ideal) a0 a1 a2 a3 a4 a5).1 (ix3 i u s)
    = (if s.val ≤ u.val then 1#1 else 0#1) ||| (if a0 (ix3 i u s) = 0 then 1#1 else 0#1) := by
  pointwise [Cert.Pre_scales_positive.fn]
  rw [WordCmp.cmpi_sle_ofNat (by omega) (by omega), bit_if, bit_if]; rfl

theorem fn1_apply (i : Fin 4) (u : Fin 384) (j : Fin 64) : (Cert.Pre_scales_positive.fn (F := Ideal) a0 a1 a2 a3 a4 a5).2.1 (ix3 i u j)
    = (if 0 < a2 (ix3 i u j) then 1#1 else 0#1) &&& (if a2 (ix3 i u j) < ⊤ then 1#1 else 0#1) := by
  pointwise [Cert.Pre_scales_positive.fn]
  rw [pinf, bit_if, bit_if]; rfl

theorem fn2_apply (i : Fin 4) (s : Fin 384) : (Cert.Pre_scales_positive.fn (F := Ideal) a0 a1 a2 a3 a4 a5).2.2 (ix2 i s)
    = (if 0 < a4 (ix2 i s) then 1#1 else 0#1) &&& (if a4 (ix2 i s) < ⊤ then 1#1 else 0#1) := by
  pointwise [Cert.Pre_scales_positive.fn]
  rw [pinf, bit_if, bit_if]; rfl

/-- The precondition makes every token's data good. -/
theorem good_of_pre (m : (ℓ : Loc nD τ sig) → Buf (Elt Ideal) ℓ) (h : Cert.Pre_KernelIdeal_scales_positive m) (c : Dev nD) (i : Fin 4) (u : Fin 384) :
    (rowAt m c i u).Good := by
  obtain ⟨h0, h1, h2⟩ := h c
  have k1 := fun j => and_bit _ _ ((fn1_apply _ _ _ _ _ _ i u j).symm.trans (congrFun h1 (ix3 i u j)))
  have k2 := fun s => and_bit _ _ ((fn2_apply _ _ _ _ _ _ i s).symm.trans (congrFun h2 (ix2 i s)))
  have k0 := fun s => or_bit _ _ ((fn0_apply _ _ _ _ _ _ i u s).symm.trans (congrFun h0 (ix3 i u s)))
  exact ⟨fun j => (k1 j).1, fun j => (k1 j).2, fun s => (k2 s).1, fun s => (k2 s).2, fun s hs => (k0 s).resolve_left (by show ¬ s.val ≤ u.val; exact not_le.2 hs)⟩

end Cert.KernelIdeal.Hand

namespace Cert.ReferenceIdeal.Hand

open Idealize.ShloMosaic Idealize.ShloMosaic.TcCoe Idealize.SL.Sem
open Cert.ReferenceIdeal Cert.ReferenceIdeal.Gen

/-! ## The kernel's results are the reference's, on the same arguments -/

section Same

variable (m : (ℓ : Loc Cert.KernelIdeal.nD Cert.KernelIdeal.τ Cert.KernelIdeal.sig) → Buf (Elt Ideal) ℓ) (c : Dev Cert.KernelIdeal.nD)
  (a0 : Vec Ideal S4x384x384 .f32) (a1 : Vec Ideal S4x384x64x128 .fp8e4m3) (a2 : Vec Ideal S4x384x64 .f32)
  (a3 : Vec Ideal S4x384x128 .fp8e4m3) (a4 : Vec Ideal S4x384 .f32) (a5 : Vec Ideal S4x384x64 .bf16)
  (h0 : a0 = m ((c : Thread Cert.KernelIdeal.nD Cert.KernelIdeal.τ).loc Cert.KernelIdeal.main_arg0))
  (h1 : a1 = m ((c : Thread Cert.KernelIdeal.nD Cert.KernelIdeal.τ).loc Cert.KernelIdeal.main_arg1))
  (h2 : a2 = m ((c : Thread Cert.KernelIdeal.nD Cert.KernelIdeal.τ).loc Cert.KernelIdeal.main_arg2))
  (h3 : a3 = m ((c : Thread Cert.KernelIdeal.nD Cert.KernelIdeal.τ).loc Cert.KernelIdeal.main_arg3))
  (h4 : a4 = m ((c : Thread Cert.KernelIdeal.nD Cert.KernelIdeal.τ).loc Cert.KernelIdeal.main_arg4))
  (h5 : a5 = m ((c : Thread Cert.KernelIdeal.nD Cert.KernelIdeal.τ).loc Cert.KernelIdeal.main_arg5))

include h0 h1 h2 h3 h4 h5

theorem rowOf_eq (i : Fin 4) (u : Fin 384) : rowOf a0 a1 a2 a3 a4 a5 i u = Cert.KernelIdeal.Hand.rowAt m c i u := by
  subst h0 h1 h2 h3 h4 h5; rfl

theorem same_kl : G6 a0 a1 a2 a3 a4 a5 = Cert.KernelIdeal.Hand.resKl m c := by
  have h : ∀ (i : Fin 4) (z : Fin 1) (u : Fin 384), G6 a0 a1 a2 a3 a4 a5 (ix3 i z u) = Cert.KernelIdeal.Hand.resKl m c (ix3 i z u) := fun i z u => by
    rw [Subsingleton.elim z 0, G6_apply, rowOf_eq m c a0 a1 a2 a3 a4 a5 h0 h1 h2 h3 h4 h5]; rfl
  funext y; rw [eq_ix3 y]; exact h _ _ _

theorem same_dq : G7 a0 a1 a2 a3 a4 a5 = Cert.KernelIdeal.Hand.resDq m c := by
  have h : ∀ (i : Fin 4) (b : Fin 3) (t : Fin 128) (j : Fin 64) (k : Fin 128), G7 a0 a1 a2 a3 a4 a5 (ix5 i b t j k) = Cert.KernelIdeal.Hand.resDq m c (ix5 i b t j k) := fun i b t j k => by
    rw [G7_apply, rowOf_eq m c a0 a1 a2 a3 a4 a5 h0 h1 h2 h3 h4 h5]; rfl
  funext y; rw [eq_ix5 y]; exact h _ _ _ _ _

theorem same_dk : G8 a0 a1 a2 a3 a4 a5 = Cert.KernelIdeal.Hand.resDk m c := by
  have h : ∀ (i : Fin 4) (s : Fin 384) (k : Fin 128), G8 a0 a1 a2 a3 a4 a5 (ix3 i s k) = Cert.KernelIdeal.Hand.resDk m c (ix3 i s k) := fun i s k => by
    rw [G8_apply]; simp only [rowOf_eq m c a0 a1 a2 a3 a4 a5 h0 h1 h2 h3 h4 h5]; rfl
  funext y; rw [eq_ix3 y]; exact h _ _ _

theorem same_dw : G9 a0 a1 a2 a3 a4 a5 = Cert.KernelIdeal.Hand.resDw m c := by
  have h : ∀ (i : Fin 4) (b : Fin 3) (t : Fin 128) (j : Fin 64), G9 a0 a1 a2 a3 a4 a5 (ix4 i b t j) = Cert.KernelIdeal.Hand.resDw m c (ix4 i b t j) := fun i b t j => by
    rw [G9_apply, rowOf_eq m c a0 a1 a2 a3 a4 a5 h0 h1 h2 h3 h4 h5]; rfl
  funext y; rw [eq_ix4 y]; exact h _ _ _ _

end Same

/-- THE ALGEBRAIC CLAIM: both programs end with the same four arrays. -/
theorem algebraic : Cert.algebraic_KernelIdeal_ReferenceIdeal_pre_scales_positive := by
  intro m g m' g' hpre hargs
  refine ⟨Cert.KernelIdeal.Hand.resKl m, Cert.KernelIdeal.Hand.resDq m, Cert.KernelIdeal.Hand.resDk m, Cert.KernelIdeal.Hand.resDw m,
    Cert.KernelIdeal.Hand.run m g (Cert.KernelIdeal.Hand.good_of_pre m hpre), ?_⟩
  refine (θ_run _ _ _).mono (fun r h c => ?_) (run m' g')
  obtain ⟨e0, e1, e2, e3, e4, e5⟩ := hargs c
  obtain ⟨r0, r1, r2, r3, rest⟩ := h c
  exact ⟨r0.trans (same_kl m c _ _ _ _ _ _ e0 e1 e2 e3 e4 e5), r1.trans (same_dq m c _ _ _ _ _ _ e0 e1 e2 e3 e4 e5),
    r2.trans (same_dk m c _ _ _ _ _ _ e0 e1 e2 e3 e4 e5), r3.trans (same_dw m c _ _ _ _ _ _ e0 e1 e2 e3 e4 e5), rest⟩

end Cert.ReferenceIdeal.Hand

end
-- ==== Proof.lean ====
/- THE PROOF of `Cert.Claim` (Defs.lean): the frames of the kernel (as printed and at the reals) and of the reference, that nothing was
   rewritten between the two kernels, and that at the reals kernel and reference end with the same four arrays. -/
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_positive
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KRun.Frame
public import proofs.«01_k».proof.Proof.Val.Frame
public import proofs.«01_k».proof.Proof.Val.Pre
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_scales_positive.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, trivial, Cert.ReferenceIdeal.Hand.algebraic⟩

end Cert.Proof

end
